-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x1024 : Shape := ⟨2, ![1024, 1024]⟩
abbrev S8 : Shape := ⟨1, ![8]⟩
abbrev S_ : Shape := ⟨0, ![]⟩
abbrev S28 : Shape := ⟨1, ![28]⟩
abbrev S1 : Shape := ⟨1, ![1]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 137 → Bool
  | ⟨i, _⟩ => dmaSemScopedAt i

abbrev sig : RefSig :=
  (ofTc nBuf bufTy 1 137 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32_26 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32 : BitVec 32 := 1024#32
  let v45 : BitVec 32 := Scalar.muli v11 c1024_i32
  let v46 : BitVec 32 := Scalar.addi v45 c0_i32_26
  let c0_i32_30 : BitVec 32 := 0#32
  ![v46.toNat, 0]
def k0_dev1 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v94 : BitVec 32 := Scalar.muli v2 c8_i32_65
  let v95 : BitVec 32 := Scalar.addi c0_i32_66 v94
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_67 : BitVec 32 := 4#32
  let v96 : BitVec 32 := Scalar.muli v44 c4_i32_67
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v98 : BitVec 32 := Scalar.muli v8 c1_i32_68
  let v99 : BitVec 32 := Scalar.addi v97 v98
  v99.toNat
def k0_dev2 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_70 : BitVec 32 := 8#32
  let v100 : BitVec 32 := Scalar.muli v24 c8_i32_70
  let v101 : BitVec 32 := Scalar.addi c0_i32_71 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v102 : BitVec 32 := Scalar.muli v5 c4_i32_72
  let v103 : BitVec 32 := Scalar.addi v101 v102
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_73 : BitVec 32 := 1#32
  let v104 : BitVec 32 := Scalar.muli v27 c1_i32_73
  let v105 : BitVec 32 := Scalar.addi v103 v104
  v105.toNat
def k0_dev3 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_75 : BitVec 32 := 8#32
  let v106 : BitVec 32 := Scalar.muli v40 c8_i32_75
  let v107 : BitVec 32 := Scalar.addi c0_i32_76 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_77 : BitVec 32 := 4#32
  let v108 : BitVec 32 := Scalar.muli v5 c4_i32_77
  let v109 : BitVec 32 := Scalar.addi v107 v108
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_78 : BitVec 32 := 1#32
  let v110 : BitVec 32 := Scalar.muli v43 c1_i32_78
  let v111 : BitVec 32 := Scalar.addi v109 v110
  v111.toNat
def k0_dev4 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v121 : BitVec 32 := Scalar.muli v2 c8_i32_89
  let v122 : BitVec 32 := Scalar.addi c0_i32_90 v121
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_91 : BitVec 32 := 4#32
  let v123 : BitVec 32 := Scalar.muli v44 c4_i32_91
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v125 : BitVec 32 := Scalar.muli v8 c1_i32_92
  let v126 : BitVec 32 := Scalar.addi v124 v125
  v126.toNat
def k0_dev5 (d0 : Dev nD) : Nat :=
  let c0_i32_107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_106 : BitVec 32 := 8#32
  let v142 : BitVec 32 := Scalar.muli v2 c8_i32_106
  let v143 : BitVec 32 := Scalar.addi c0_i32_107 v142
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_108 : BitVec 32 := 4#32
  let v144 : BitVec 32 := Scalar.muli v44 c4_i32_108
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v146 : BitVec 32 := Scalar.muli v8 c1_i32_109
  let v147 : BitVec 32 := Scalar.addi v145 v146
  v147.toNat
def k0_dev6 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v163 : BitVec 32 := Scalar.muli v2 c8_i32_123
  let v164 : BitVec 32 := Scalar.addi c0_i32_124 v163
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_125 : BitVec 32 := 4#32
  let v165 : BitVec 32 := Scalar.muli v44 c4_i32_125
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v167 : BitVec 32 := Scalar.muli v8 c1_i32_126
  let v168 : BitVec 32 := Scalar.addi v166 v167
  v168.toNat
def k0_dev7 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v184 : BitVec 32 := Scalar.muli v2 c8_i32_140
  let v185 : BitVec 32 := Scalar.addi c0_i32_141 v184
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_142 : BitVec 32 := 4#32
  let v186 : BitVec 32 := Scalar.muli v44 c4_i32_142
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v188 : BitVec 32 := Scalar.muli v8 c1_i32_143
  let v189 : BitVec 32 := Scalar.addi v187 v188
  v189.toNat
def k0_dev8 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v205 : BitVec 32 := Scalar.muli v2 c8_i32_157
  let v206 : BitVec 32 := Scalar.addi c0_i32_158 v205
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_159 : BitVec 32 := 4#32
  let v207 : BitVec 32 := Scalar.muli v44 c4_i32_159
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v209 : BitVec 32 := Scalar.muli v8 c1_i32_160
  let v210 : BitVec 32 := Scalar.addi v208 v209
  v210.toNat
def k0_dev9 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v226 : BitVec 32 := Scalar.muli v2 c8_i32_174
  let v227 : BitVec 32 := Scalar.addi c0_i32_175 v226
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_176 : BitVec 32 := 4#32
  let v228 : BitVec 32 := Scalar.muli v44 c4_i32_176
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v230 : BitVec 32 := Scalar.muli v8 c1_i32_177
  let v231 : BitVec 32 := Scalar.addi v229 v230
  v231.toNat
def k0_dev10 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v247 : BitVec 32 := Scalar.muli v2 c8_i32_191
  let v248 : BitVec 32 := Scalar.addi c0_i32_192 v247
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_193 : BitVec 32 := 4#32
  let v249 : BitVec 32 := Scalar.muli v44 c4_i32_193
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v251 : BitVec 32 := Scalar.muli v8 c1_i32_194
  let v252 : BitVec 32 := Scalar.addi v250 v251
  v252.toNat
def k0_dev11 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v268 : BitVec 32 := Scalar.muli v2 c8_i32_208
  let v269 : BitVec 32 := Scalar.addi c0_i32_209 v268
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_25 v5
  let c4_i32_210 : BitVec 32 := 4#32
  let v270 : BitVec 32 := Scalar.muli v44 c4_i32_210
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v272 : BitVec 32 := Scalar.muli v8 c1_i32_211
  let v273 : BitVec 32 := Scalar.addi v271 v272
  v273.toNat
def k0_off2 (d0 : Dev nD) (c0_i32_234 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_233 : BitVec 32 := 1024#32
  let v294 : BitVec 32 := Scalar.muli v11 c1024_i32_233
  let v295 : BitVec 32 := Scalar.addi v294 c0_i32_234
  let v301 : Index := Scalar.indexCast v295
  let c0_239 : Index := 0#32
  ![v301.toNat, 0]
def k0_off3 (d0 : Dev nD) (c0_i32_240 : BitVec 32) (c0_i32_248 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v305 : BitVec 32 := Scalar.subi v11 c0_i32_240
  let c8_i32_241 : BitVec 32 := 8#32
  let c0_i32_242 : BitVec 32 := 0#32
  let v306 : BitVec 1 := Scalar.cmpi .eq c8_i32_241 c0_i32_242
  let c1_i32_243 : BitVec 32 := 1#32
  let v307 : BitVec 32 := Scalar.select v306 c1_i32_243 c8_i32_241
  let v308 : BitVec 32 := Scalar.remsi v305 v307
  let c0_i32_245 : BitVec 32 := 0#32
  let v310 : BitVec 1 := Scalar.cmpi .slt v308 c0_i32_245
  let c0_i32_246 : BitVec 32 := 0#32
  let v311 : BitVec 1 := Scalar.cmpi .slt v307 c0_i32_246
  let v312 : BitVec 1 := Scalar.xori v310 v311
  let c0_i32_244 : BitVec 32 := 0#32
  let v309 : BitVec 1 := Scalar.cmpi .ne v308 c0_i32_244
  let v313 : BitVec 1 := Scalar.andi v312 v309
  let v314 : BitVec 32 := Scalar.addi v308 v307
  let v315 : BitVec 32 := Scalar.select v313 v314 v308
  let c1024_i32_247 : BitVec 32 := 1024#32
  let v316 : BitVec 32 := Scalar.muli v315 c1024_i32_247
  let v317 : BitVec 32 := Scalar.addi v316 c0_i32_248
  let c0_i32_255 : BitVec 32 := 0#32
  ![v317.toNat, 0]
def k0_off3_at (r : Fin 36) : BitVec 32 × BitVec 32 :=
  if r.val < 18 then
    if r.val < 9 then
      if r.val < 4 then
        if r.val < 2 then
          if r.val < 1 then
            (0#32, 0#32)
          else
            (0#32, 128#32)
        else
          if r.val < 3 then
            (0#32, 256#32)
          else
            (0#32, 384#32)
      else
        if r.val < 6 then
          if r.val < 5 then
            (0#32, 512#32)
          else
            (0#32, 640#32)
        else
          if r.val < 7 then
            (0#32, 768#32)
          else
            if r.val < 8 then
              (0#32, 896#32)
            else
              (1#32, 0#32)
    else
      if r.val < 13 then
        if r.val < 11 then
          if r.val < 10 then
            (1#32, 128#32)
          else
            (1#32, 256#32)
        else
          if r.val < 12 then
            (1#32, 384#32)
          else
            (1#32, 512#32)
      else
        if r.val < 15 then
          if r.val < 14 then
            (1#32, 640#32)
          else
            (1#32, 768#32)
        else
          if r.val < 16 then
            (1#32, 896#32)
          else
            if r.val < 17 then
              (2#32, 0#32)
            else
              (2#32, 128#32)
  else
    if r.val < 27 then
      if r.val < 22 then
        if r.val < 20 then
          if r.val < 19 then
            (2#32, 256#32)
          else
            (2#32, 384#32)
        else
          if r.val < 21 then
            (2#32, 512#32)
          else
            (2#32, 640#32)
      else
        if r.val < 24 then
          if r.val < 23 then
            (2#32, 768#32)
          else
            (2#32, 896#32)
        else
          if r.val < 25 then
            (3#32, 0#32)
          else
            if r.val < 26 then
              (3#32, 128#32)
            else
              (3#32, 256#32)
    else
      if r.val < 31 then
        if r.val < 29 then
          if r.val < 28 then
            (3#32, 384#32)
          else
            (4#32, 0#32)
        else
          if r.val < 30 then
            (4#32, 128#32)
          else
            (4#32, 256#32)
      else
        if r.val < 33 then
          if r.val < 32 then
            (4#32, 384#32)
          else
            (3#32, 512#32)
        else
          if r.val < 34 then
            (3#32, 640#32)
          else
            if r.val < 35 then
              (3#32, 768#32)
            else
              (3#32, 896#32)
def k0_dev12 (d0 : Dev nD) : Nat :=
  let c0_i32_252 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_251 : BitVec 32 := 8#32
  let v318 : BitVec 32 := Scalar.muli v24 c8_i32_251
  let v319 : BitVec 32 := Scalar.addi c0_i32_252 v318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_253 : BitVec 32 := 4#32
  let v320 : BitVec 32 := Scalar.muli v5 c4_i32_253
  let v321 : BitVec 32 := Scalar.addi v319 v320
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_254 : BitVec 32 := 1#32
  let v322 : BitVec 32 := Scalar.muli v27 c1_i32_254
  let v323 : BitVec 32 := Scalar.addi v321 v322
  v323.toNat
def k0_off4 (d0 : Dev nD) (c0_i32_257 : BitVec 32) (c0_i32_265 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v330 : BitVec 32 := Scalar.addi v11 c0_i32_257
  let c8_i32_258 : BitVec 32 := 8#32
  let c0_i32_259 : BitVec 32 := 0#32
  let v331 : BitVec 1 := Scalar.cmpi .eq c8_i32_258 c0_i32_259
  let c1_i32_260 : BitVec 32 := 1#32
  let v332 : BitVec 32 := Scalar.select v331 c1_i32_260 c8_i32_258
  let v333 : BitVec 32 := Scalar.remsi v330 v332
  let c0_i32_262 : BitVec 32 := 0#32
  let v335 : BitVec 1 := Scalar.cmpi .slt v333 c0_i32_262
  let c0_i32_263 : BitVec 32 := 0#32
  let v336 : BitVec 1 := Scalar.cmpi .slt v332 c0_i32_263
  let v337 : BitVec 1 := Scalar.xori v335 v336
  let c0_i32_261 : BitVec 32 := 0#32
  let v334 : BitVec 1 := Scalar.cmpi .ne v333 c0_i32_261
  let v338 : BitVec 1 := Scalar.andi v337 v334
  let v339 : BitVec 32 := Scalar.addi v333 v332
  let v340 : BitVec 32 := Scalar.select v338 v339 v333
  let c1024_i32_264 : BitVec 32 := 1024#32
  let v341 : BitVec 32 := Scalar.muli v340 c1024_i32_264
  let v342 : BitVec 32 := Scalar.addi v341 c0_i32_265
  let c0_i32_272 : BitVec 32 := 0#32
  ![v342.toNat, 0]
def k0_off4_at (r : Fin 36) : BitVec 32 × BitVec 32 :=
  if r.val < 18 then
    if r.val < 9 then
      if r.val < 4 then
        if r.val < 2 then
          if r.val < 1 then
            (0#32, 0#32)
          else
            (0#32, 128#32)
        else
          if r.val < 3 then
            (0#32, 256#32)
          else
            (0#32, 384#32)
      else
        if r.val < 6 then
          if r.val < 5 then
            (0#32, 512#32)
          else
            (0#32, 640#32)
        else
          if r.val < 7 then
            (0#32, 768#32)
          else
            if r.val < 8 then
              (0#32, 896#32)
            else
              (1#32, 0#32)
    else
      if r.val < 13 then
        if r.val < 11 then
          if r.val < 10 then
            (1#32, 128#32)
          else
            (1#32, 256#32)
        else
          if r.val < 12 then
            (1#32, 384#32)
          else
            (1#32, 512#32)
      else
        if r.val < 15 then
          if r.val < 14 then
            (1#32, 640#32)
          else
            (1#32, 768#32)
        else
          if r.val < 16 then
            (1#32, 896#32)
          else
            if r.val < 17 then
              (2#32, 0#32)
            else
              (2#32, 128#32)
  else
    if r.val < 27 then
      if r.val < 22 then
        if r.val < 20 then
          if r.val < 19 then
            (2#32, 256#32)
          else
            (2#32, 384#32)
        else
          if r.val < 21 then
            (2#32, 512#32)
          else
            (2#32, 640#32)
      else
        if r.val < 24 then
          if r.val < 23 then
            (2#32, 768#32)
          else
            (2#32, 896#32)
        else
          if r.val < 25 then
            (3#32, 512#32)
          else
            if r.val < 26 then
              (3#32, 640#32)
            else
              (3#32, 768#32)
    else
      if r.val < 31 then
        if r.val < 29 then
          if r.val < 28 then
            (3#32, 896#32)
          else
            (3#32, 0#32)
        else
          if r.val < 30 then
            (3#32, 128#32)
          else
            (3#32, 256#32)
      else
        if r.val < 33 then
          if r.val < 32 then
            (3#32, 384#32)
          else
            (4#32, 512#32)
        else
          if r.val < 34 then
            (4#32, 640#32)
          else
            if r.val < 35 then
              (4#32, 768#32)
            else
              (4#32, 896#32)
def k0_dev13 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_268 : BitVec 32 := 8#32
  let v343 : BitVec 32 := Scalar.muli v40 c8_i32_268
  let v344 : BitVec 32 := Scalar.addi c0_i32_269 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_270 : BitVec 32 := 4#32
  let v345 : BitVec 32 := Scalar.muli v5 c4_i32_270
  let v346 : BitVec 32 := Scalar.addi v344 v345
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_271 : BitVec 32 := 1#32
  let v347 : BitVec 32 := Scalar.muli v43 c1_i32_271
  let v348 : BitVec 32 := Scalar.addi v346 v347
  v348.toNat
def k0_dev14 (d0 : Dev nD) : Nat :=
  let c0_i32_314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_313 : BitVec 32 := 8#32
  let v397 : BitVec 32 := Scalar.muli v24 c8_i32_313
  let v398 : BitVec 32 := Scalar.addi c0_i32_314 v397
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_315 : BitVec 32 := 4#32
  let v399 : BitVec 32 := Scalar.muli v5 c4_i32_315
  let v400 : BitVec 32 := Scalar.addi v398 v399
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_316 : BitVec 32 := 1#32
  let v401 : BitVec 32 := Scalar.muli v27 c1_i32_316
  let v402 : BitVec 32 := Scalar.addi v400 v401
  v402.toNat
def k0_dev15 (d0 : Dev nD) : Nat :=
  let c0_i32_331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_330 : BitVec 32 := 8#32
  let v422 : BitVec 32 := Scalar.muli v40 c8_i32_330
  let v423 : BitVec 32 := Scalar.addi c0_i32_331 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_332 : BitVec 32 := 4#32
  let v424 : BitVec 32 := Scalar.muli v5 c4_i32_332
  let v425 : BitVec 32 := Scalar.addi v423 v424
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_333 : BitVec 32 := 1#32
  let v426 : BitVec 32 := Scalar.muli v43 c1_i32_333
  let v427 : BitVec 32 := Scalar.addi v425 v426
  v427.toNat
def k0_dev16 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_375 : BitVec 32 := 8#32
  let v476 : BitVec 32 := Scalar.muli v24 c8_i32_375
  let v477 : BitVec 32 := Scalar.addi c0_i32_376 v476
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v478 : BitVec 32 := Scalar.muli v5 c4_i32_377
  let v479 : BitVec 32 := Scalar.addi v477 v478
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_378 : BitVec 32 := 1#32
  let v480 : BitVec 32 := Scalar.muli v27 c1_i32_378
  let v481 : BitVec 32 := Scalar.addi v479 v480
  v481.toNat
def k0_dev17 (d0 : Dev nD) : Nat :=
  let c0_i32_393 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_392 : BitVec 32 := 8#32
  let v501 : BitVec 32 := Scalar.muli v40 c8_i32_392
  let v502 : BitVec 32 := Scalar.addi c0_i32_393 v501
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_394 : BitVec 32 := 4#32
  let v503 : BitVec 32 := Scalar.muli v5 c4_i32_394
  let v504 : BitVec 32 := Scalar.addi v502 v503
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_395 : BitVec 32 := 1#32
  let v505 : BitVec 32 := Scalar.muli v43 c1_i32_395
  let v506 : BitVec 32 := Scalar.addi v504 v505
  v506.toNat
def k0_dev18 (d0 : Dev nD) : Nat :=
  let c0_i32_438 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_437 : BitVec 32 := 8#32
  let v555 : BitVec 32 := Scalar.muli v24 c8_i32_437
  let v556 : BitVec 32 := Scalar.addi c0_i32_438 v555
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_439 : BitVec 32 := 4#32
  let v557 : BitVec 32 := Scalar.muli v5 c4_i32_439
  let v558 : BitVec 32 := Scalar.addi v556 v557
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_440 : BitVec 32 := 1#32
  let v559 : BitVec 32 := Scalar.muli v27 c1_i32_440
  let v560 : BitVec 32 := Scalar.addi v558 v559
  v560.toNat
def k0_dev19 (d0 : Dev nD) : Nat :=
  let c0_i32_455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_454 : BitVec 32 := 8#32
  let v580 : BitVec 32 := Scalar.muli v40 c8_i32_454
  let v581 : BitVec 32 := Scalar.addi c0_i32_455 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_456 : BitVec 32 := 4#32
  let v582 : BitVec 32 := Scalar.muli v5 c4_i32_456
  let v583 : BitVec 32 := Scalar.addi v581 v582
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_457 : BitVec 32 := 1#32
  let v584 : BitVec 32 := Scalar.muli v43 c1_i32_457
  let v585 : BitVec 32 := Scalar.addi v583 v584
  v585.toNat
def k0_dev20 (d0 : Dev nD) : Nat :=
  let c0_i32_500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_499 : BitVec 32 := 8#32
  let v634 : BitVec 32 := Scalar.muli v24 c8_i32_499
  let v635 : BitVec 32 := Scalar.addi c0_i32_500 v634
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_501 : BitVec 32 := 4#32
  let v636 : BitVec 32 := Scalar.muli v5 c4_i32_501
  let v637 : BitVec 32 := Scalar.addi v635 v636
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_502 : BitVec 32 := 1#32
  let v638 : BitVec 32 := Scalar.muli v27 c1_i32_502
  let v639 : BitVec 32 := Scalar.addi v637 v638
  v639.toNat
def k0_dev21 (d0 : Dev nD) : Nat :=
  let c0_i32_517 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_516 : BitVec 32 := 8#32
  let v659 : BitVec 32 := Scalar.muli v40 c8_i32_516
  let v660 : BitVec 32 := Scalar.addi c0_i32_517 v659
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_518 : BitVec 32 := 4#32
  let v661 : BitVec 32 := Scalar.muli v5 c4_i32_518
  let v662 : BitVec 32 := Scalar.addi v660 v661
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_519 : BitVec 32 := 1#32
  let v663 : BitVec 32 := Scalar.muli v43 c1_i32_519
  let v664 : BitVec 32 := Scalar.addi v662 v663
  v664.toNat
def k0_dev22 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_561 : BitVec 32 := 8#32
  let v713 : BitVec 32 := Scalar.muli v24 c8_i32_561
  let v714 : BitVec 32 := Scalar.addi c0_i32_562 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_563 : BitVec 32 := 4#32
  let v715 : BitVec 32 := Scalar.muli v5 c4_i32_563
  let v716 : BitVec 32 := Scalar.addi v714 v715
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_564 : BitVec 32 := 1#32
  let v717 : BitVec 32 := Scalar.muli v27 c1_i32_564
  let v718 : BitVec 32 := Scalar.addi v716 v717
  v718.toNat
def k0_dev23 (d0 : Dev nD) : Nat :=
  let c0_i32_579 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_578 : BitVec 32 := 8#32
  let v738 : BitVec 32 := Scalar.muli v40 c8_i32_578
  let v739 : BitVec 32 := Scalar.addi c0_i32_579 v738
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_580 : BitVec 32 := 4#32
  let v740 : BitVec 32 := Scalar.muli v5 c4_i32_580
  let v741 : BitVec 32 := Scalar.addi v739 v740
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_581 : BitVec 32 := 1#32
  let v742 : BitVec 32 := Scalar.muli v43 c1_i32_581
  let v743 : BitVec 32 := Scalar.addi v741 v742
  v743.toNat
def k0_dev24 (d0 : Dev nD) : Nat :=
  let c0_i32_624 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_623 : BitVec 32 := 8#32
  let v792 : BitVec 32 := Scalar.muli v24 c8_i32_623
  let v793 : BitVec 32 := Scalar.addi c0_i32_624 v792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_625 : BitVec 32 := 4#32
  let v794 : BitVec 32 := Scalar.muli v5 c4_i32_625
  let v795 : BitVec 32 := Scalar.addi v793 v794
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_626 : BitVec 32 := 1#32
  let v796 : BitVec 32 := Scalar.muli v27 c1_i32_626
  let v797 : BitVec 32 := Scalar.addi v795 v796
  v797.toNat
def k0_dev25 (d0 : Dev nD) : Nat :=
  let c0_i32_641 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_640 : BitVec 32 := 8#32
  let v817 : BitVec 32 := Scalar.muli v40 c8_i32_640
  let v818 : BitVec 32 := Scalar.addi c0_i32_641 v817
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_642 : BitVec 32 := 4#32
  let v819 : BitVec 32 := Scalar.muli v5 c4_i32_642
  let v820 : BitVec 32 := Scalar.addi v818 v819
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_643 : BitVec 32 := 1#32
  let v821 : BitVec 32 := Scalar.muli v43 c1_i32_643
  let v822 : BitVec 32 := Scalar.addi v820 v821
  v822.toNat
def k0_dev26 (d0 : Dev nD) : Nat :=
  let c0_i32_686 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_685 : BitVec 32 := 8#32
  let v871 : BitVec 32 := Scalar.muli v24 c8_i32_685
  let v872 : BitVec 32 := Scalar.addi c0_i32_686 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_687 : BitVec 32 := 4#32
  let v873 : BitVec 32 := Scalar.muli v5 c4_i32_687
  let v874 : BitVec 32 := Scalar.addi v872 v873
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_688 : BitVec 32 := 1#32
  let v875 : BitVec 32 := Scalar.muli v27 c1_i32_688
  let v876 : BitVec 32 := Scalar.addi v874 v875
  v876.toNat
def k0_dev27 (d0 : Dev nD) : Nat :=
  let c0_i32_703 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_702 : BitVec 32 := 8#32
  let v896 : BitVec 32 := Scalar.muli v40 c8_i32_702
  let v897 : BitVec 32 := Scalar.addi c0_i32_703 v896
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_704 : BitVec 32 := 4#32
  let v898 : BitVec 32 := Scalar.muli v5 c4_i32_704
  let v899 : BitVec 32 := Scalar.addi v897 v898
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_705 : BitVec 32 := 1#32
  let v900 : BitVec 32 := Scalar.muli v43 c1_i32_705
  let v901 : BitVec 32 := Scalar.addi v899 v900
  v901.toNat
def k0_dev28 (d0 : Dev nD) : Nat :=
  let c0_i32_732 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_731 : BitVec 32 := 8#32
  let v935 : BitVec 32 := Scalar.muli v24 c8_i32_731
  let v936 : BitVec 32 := Scalar.addi c0_i32_732 v935
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_733 : BitVec 32 := 4#32
  let v937 : BitVec 32 := Scalar.muli v5 c4_i32_733
  let v938 : BitVec 32 := Scalar.addi v936 v937
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_734 : BitVec 32 := 1#32
  let v939 : BitVec 32 := Scalar.muli v27 c1_i32_734
  let v940 : BitVec 32 := Scalar.addi v938 v939
  v940.toNat
def k0_dev29 (d0 : Dev nD) : Nat :=
  let c0_i32_768 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_767 : BitVec 32 := 8#32
  let v985 : BitVec 32 := Scalar.muli v40 c8_i32_767
  let v986 : BitVec 32 := Scalar.addi c0_i32_768 v985
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v987 : BitVec 32 := Scalar.muli v5 c4_i32_769
  let v988 : BitVec 32 := Scalar.addi v986 v987
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_770 : BitVec 32 := 1#32
  let v989 : BitVec 32 := Scalar.muli v43 c1_i32_770
  let v990 : BitVec 32 := Scalar.addi v988 v989
  v990.toNat
def k0_dev30 (d0 : Dev nD) : Nat :=
  let c0_i32_803 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_802 : BitVec 32 := 8#32
  let v1035 : BitVec 32 := Scalar.muli v24 c8_i32_802
  let v1036 : BitVec 32 := Scalar.addi c0_i32_803 v1035
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_804 : BitVec 32 := 4#32
  let v1037 : BitVec 32 := Scalar.muli v5 c4_i32_804
  let v1038 : BitVec 32 := Scalar.addi v1036 v1037
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_805 : BitVec 32 := 1#32
  let v1039 : BitVec 32 := Scalar.muli v27 c1_i32_805
  let v1040 : BitVec 32 := Scalar.addi v1038 v1039
  v1040.toNat
def k0_dev31 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_838 : BitVec 32 := 8#32
  let v1085 : BitVec 32 := Scalar.muli v40 c8_i32_838
  let v1086 : BitVec 32 := Scalar.addi c0_i32_839 v1085
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v1087 : BitVec 32 := Scalar.muli v5 c4_i32_840
  let v1088 : BitVec 32 := Scalar.addi v1086 v1087
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_841 : BitVec 32 := 1#32
  let v1089 : BitVec 32 := Scalar.muli v43 c1_i32_841
  let v1090 : BitVec 32 := Scalar.addi v1088 v1089
  v1090.toNat
def k0_dev32 (d0 : Dev nD) : Nat :=
  let c0_i32_874 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_873 : BitVec 32 := 8#32
  let v1135 : BitVec 32 := Scalar.muli v24 c8_i32_873
  let v1136 : BitVec 32 := Scalar.addi c0_i32_874 v1135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_875 : BitVec 32 := 4#32
  let v1137 : BitVec 32 := Scalar.muli v5 c4_i32_875
  let v1138 : BitVec 32 := Scalar.addi v1136 v1137
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_876 : BitVec 32 := 1#32
  let v1139 : BitVec 32 := Scalar.muli v27 c1_i32_876
  let v1140 : BitVec 32 := Scalar.addi v1138 v1139
  v1140.toNat
def k0_dev33 (d0 : Dev nD) : Nat :=
  let c0_i32_910 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_909 : BitVec 32 := 8#32
  let v1185 : BitVec 32 := Scalar.muli v40 c8_i32_909
  let v1186 : BitVec 32 := Scalar.addi c0_i32_910 v1185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_911 : BitVec 32 := 4#32
  let v1187 : BitVec 32 := Scalar.muli v5 c4_i32_911
  let v1188 : BitVec 32 := Scalar.addi v1186 v1187
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_912 : BitVec 32 := 1#32
  let v1189 : BitVec 32 := Scalar.muli v43 c1_i32_912
  let v1190 : BitVec 32 := Scalar.addi v1188 v1189
  v1190.toNat
def k0_dev34 (d0 : Dev nD) : Nat :=
  let c0_i32_945 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_944 : BitVec 32 := 8#32
  let v1235 : BitVec 32 := Scalar.muli v24 c8_i32_944
  let v1236 : BitVec 32 := Scalar.addi c0_i32_945 v1235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_946 : BitVec 32 := 4#32
  let v1237 : BitVec 32 := Scalar.muli v5 c4_i32_946
  let v1238 : BitVec 32 := Scalar.addi v1236 v1237
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_947 : BitVec 32 := 1#32
  let v1239 : BitVec 32 := Scalar.muli v27 c1_i32_947
  let v1240 : BitVec 32 := Scalar.addi v1238 v1239
  v1240.toNat
def k0_dev35 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_980 : BitVec 32 := 8#32
  let v1285 : BitVec 32 := Scalar.muli v40 c8_i32_980
  let v1286 : BitVec 32 := Scalar.addi c0_i32_981 v1285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_982 : BitVec 32 := 4#32
  let v1287 : BitVec 32 := Scalar.muli v5 c4_i32_982
  let v1288 : BitVec 32 := Scalar.addi v1286 v1287
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_983 : BitVec 32 := 1#32
  let v1289 : BitVec 32 := Scalar.muli v43 c1_i32_983
  let v1290 : BitVec 32 := Scalar.addi v1288 v1289
  v1290.toNat
def k0_dev36 (d0 : Dev nD) : Nat :=
  let c0_i32_1016 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1015 : BitVec 32 := 8#32
  let v1335 : BitVec 32 := Scalar.muli v24 c8_i32_1015
  let v1336 : BitVec 32 := Scalar.addi c0_i32_1016 v1335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1017 : BitVec 32 := 4#32
  let v1337 : BitVec 32 := Scalar.muli v5 c4_i32_1017
  let v1338 : BitVec 32 := Scalar.addi v1336 v1337
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1018 : BitVec 32 := 1#32
  let v1339 : BitVec 32 := Scalar.muli v27 c1_i32_1018
  let v1340 : BitVec 32 := Scalar.addi v1338 v1339
  v1340.toNat
def k0_dev37 (d0 : Dev nD) : Nat :=
  let c0_i32_1052 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1051 : BitVec 32 := 8#32
  let v1385 : BitVec 32 := Scalar.muli v40 c8_i32_1051
  let v1386 : BitVec 32 := Scalar.addi c0_i32_1052 v1385
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1053 : BitVec 32 := 4#32
  let v1387 : BitVec 32 := Scalar.muli v5 c4_i32_1053
  let v1388 : BitVec 32 := Scalar.addi v1386 v1387
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1054 : BitVec 32 := 1#32
  let v1389 : BitVec 32 := Scalar.muli v43 c1_i32_1054
  let v1390 : BitVec 32 := Scalar.addi v1388 v1389
  v1390.toNat
def k0_dev38 (d0 : Dev nD) : Nat :=
  let c0_i32_1087 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1086 : BitVec 32 := 8#32
  let v1435 : BitVec 32 := Scalar.muli v24 c8_i32_1086
  let v1436 : BitVec 32 := Scalar.addi c0_i32_1087 v1435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1088 : BitVec 32 := 4#32
  let v1437 : BitVec 32 := Scalar.muli v5 c4_i32_1088
  let v1438 : BitVec 32 := Scalar.addi v1436 v1437
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1089 : BitVec 32 := 1#32
  let v1439 : BitVec 32 := Scalar.muli v27 c1_i32_1089
  let v1440 : BitVec 32 := Scalar.addi v1438 v1439
  v1440.toNat
def k0_dev39 (d0 : Dev nD) : Nat :=
  let c0_i32_1123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1122 : BitVec 32 := 8#32
  let v1485 : BitVec 32 := Scalar.muli v40 c8_i32_1122
  let v1486 : BitVec 32 := Scalar.addi c0_i32_1123 v1485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1124 : BitVec 32 := 4#32
  let v1487 : BitVec 32 := Scalar.muli v5 c4_i32_1124
  let v1488 : BitVec 32 := Scalar.addi v1486 v1487
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1125 : BitVec 32 := 1#32
  let v1489 : BitVec 32 := Scalar.muli v43 c1_i32_1125
  let v1490 : BitVec 32 := Scalar.addi v1488 v1489
  v1490.toNat
def k0_dev40 (d0 : Dev nD) : Nat :=
  let c0_i32_1158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1157 : BitVec 32 := 8#32
  let v1535 : BitVec 32 := Scalar.muli v24 c8_i32_1157
  let v1536 : BitVec 32 := Scalar.addi c0_i32_1158 v1535
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1159 : BitVec 32 := 4#32
  let v1537 : BitVec 32 := Scalar.muli v5 c4_i32_1159
  let v1538 : BitVec 32 := Scalar.addi v1536 v1537
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1160 : BitVec 32 := 1#32
  let v1539 : BitVec 32 := Scalar.muli v27 c1_i32_1160
  let v1540 : BitVec 32 := Scalar.addi v1538 v1539
  v1540.toNat
def k0_dev41 (d0 : Dev nD) : Nat :=
  let c0_i32_1194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1193 : BitVec 32 := 8#32
  let v1585 : BitVec 32 := Scalar.muli v40 c8_i32_1193
  let v1586 : BitVec 32 := Scalar.addi c0_i32_1194 v1585
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1195 : BitVec 32 := 4#32
  let v1587 : BitVec 32 := Scalar.muli v5 c4_i32_1195
  let v1588 : BitVec 32 := Scalar.addi v1586 v1587
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1196 : BitVec 32 := 1#32
  let v1589 : BitVec 32 := Scalar.muli v43 c1_i32_1196
  let v1590 : BitVec 32 := Scalar.addi v1588 v1589
  v1590.toNat
def k0_dev42 (d0 : Dev nD) : Nat :=
  let c0_i32_1229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1228 : BitVec 32 := 8#32
  let v1635 : BitVec 32 := Scalar.muli v24 c8_i32_1228
  let v1636 : BitVec 32 := Scalar.addi c0_i32_1229 v1635
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1230 : BitVec 32 := 4#32
  let v1637 : BitVec 32 := Scalar.muli v5 c4_i32_1230
  let v1638 : BitVec 32 := Scalar.addi v1636 v1637
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1231 : BitVec 32 := 1#32
  let v1639 : BitVec 32 := Scalar.muli v27 c1_i32_1231
  let v1640 : BitVec 32 := Scalar.addi v1638 v1639
  v1640.toNat
def k0_dev43 (d0 : Dev nD) : Nat :=
  let c0_i32_1265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1264 : BitVec 32 := 8#32
  let v1685 : BitVec 32 := Scalar.muli v40 c8_i32_1264
  let v1686 : BitVec 32 := Scalar.addi c0_i32_1265 v1685
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1266 : BitVec 32 := 4#32
  let v1687 : BitVec 32 := Scalar.muli v5 c4_i32_1266
  let v1688 : BitVec 32 := Scalar.addi v1686 v1687
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1267 : BitVec 32 := 1#32
  let v1689 : BitVec 32 := Scalar.muli v43 c1_i32_1267
  let v1690 : BitVec 32 := Scalar.addi v1688 v1689
  v1690.toNat
def k0_dev44 (d0 : Dev nD) : Nat :=
  let c0_i32_1300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1299 : BitVec 32 := 8#32
  let v1735 : BitVec 32 := Scalar.muli v24 c8_i32_1299
  let v1736 : BitVec 32 := Scalar.addi c0_i32_1300 v1735
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1301 : BitVec 32 := 4#32
  let v1737 : BitVec 32 := Scalar.muli v5 c4_i32_1301
  let v1738 : BitVec 32 := Scalar.addi v1736 v1737
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1302 : BitVec 32 := 1#32
  let v1739 : BitVec 32 := Scalar.muli v27 c1_i32_1302
  let v1740 : BitVec 32 := Scalar.addi v1738 v1739
  v1740.toNat
def k0_dev45 (d0 : Dev nD) : Nat :=
  let c0_i32_1336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1335 : BitVec 32 := 8#32
  let v1785 : BitVec 32 := Scalar.muli v40 c8_i32_1335
  let v1786 : BitVec 32 := Scalar.addi c0_i32_1336 v1785
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1337 : BitVec 32 := 4#32
  let v1787 : BitVec 32 := Scalar.muli v5 c4_i32_1337
  let v1788 : BitVec 32 := Scalar.addi v1786 v1787
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1338 : BitVec 32 := 1#32
  let v1789 : BitVec 32 := Scalar.muli v43 c1_i32_1338
  let v1790 : BitVec 32 := Scalar.addi v1788 v1789
  v1790.toNat
def k0_dev46 (d0 : Dev nD) : Nat :=
  let c0_i32_1371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1370 : BitVec 32 := 8#32
  let v1835 : BitVec 32 := Scalar.muli v24 c8_i32_1370
  let v1836 : BitVec 32 := Scalar.addi c0_i32_1371 v1835
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1372 : BitVec 32 := 4#32
  let v1837 : BitVec 32 := Scalar.muli v5 c4_i32_1372
  let v1838 : BitVec 32 := Scalar.addi v1836 v1837
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1373 : BitVec 32 := 1#32
  let v1839 : BitVec 32 := Scalar.muli v27 c1_i32_1373
  let v1840 : BitVec 32 := Scalar.addi v1838 v1839
  v1840.toNat
def k0_dev47 (d0 : Dev nD) : Nat :=
  let c0_i32_1407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1406 : BitVec 32 := 8#32
  let v1885 : BitVec 32 := Scalar.muli v40 c8_i32_1406
  let v1886 : BitVec 32 := Scalar.addi c0_i32_1407 v1885
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1408 : BitVec 32 := 4#32
  let v1887 : BitVec 32 := Scalar.muli v5 c4_i32_1408
  let v1888 : BitVec 32 := Scalar.addi v1886 v1887
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1409 : BitVec 32 := 1#32
  let v1889 : BitVec 32 := Scalar.muli v43 c1_i32_1409
  let v1890 : BitVec 32 := Scalar.addi v1888 v1889
  v1890.toNat
def k0_dev48 (d0 : Dev nD) : Nat :=
  let c0_i32_1442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1441 : BitVec 32 := 8#32
  let v1935 : BitVec 32 := Scalar.muli v24 c8_i32_1441
  let v1936 : BitVec 32 := Scalar.addi c0_i32_1442 v1935
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1443 : BitVec 32 := 4#32
  let v1937 : BitVec 32 := Scalar.muli v5 c4_i32_1443
  let v1938 : BitVec 32 := Scalar.addi v1936 v1937
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1444 : BitVec 32 := 1#32
  let v1939 : BitVec 32 := Scalar.muli v27 c1_i32_1444
  let v1940 : BitVec 32 := Scalar.addi v1938 v1939
  v1940.toNat
def k0_dev49 (d0 : Dev nD) : Nat :=
  let c0_i32_1478 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1477 : BitVec 32 := 8#32
  let v1985 : BitVec 32 := Scalar.muli v40 c8_i32_1477
  let v1986 : BitVec 32 := Scalar.addi c0_i32_1478 v1985
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1479 : BitVec 32 := 4#32
  let v1987 : BitVec 32 := Scalar.muli v5 c4_i32_1479
  let v1988 : BitVec 32 := Scalar.addi v1986 v1987
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1480 : BitVec 32 := 1#32
  let v1989 : BitVec 32 := Scalar.muli v43 c1_i32_1480
  let v1990 : BitVec 32 := Scalar.addi v1988 v1989
  v1990.toNat
def k0_dev50 (d0 : Dev nD) : Nat :=
  let c0_i32_1513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1512 : BitVec 32 := 8#32
  let v2035 : BitVec 32 := Scalar.muli v24 c8_i32_1512
  let v2036 : BitVec 32 := Scalar.addi c0_i32_1513 v2035
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1514 : BitVec 32 := 4#32
  let v2037 : BitVec 32 := Scalar.muli v5 c4_i32_1514
  let v2038 : BitVec 32 := Scalar.addi v2036 v2037
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1515 : BitVec 32 := 1#32
  let v2039 : BitVec 32 := Scalar.muli v27 c1_i32_1515
  let v2040 : BitVec 32 := Scalar.addi v2038 v2039
  v2040.toNat
def k0_dev51 (d0 : Dev nD) : Nat :=
  let c0_i32_1549 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1548 : BitVec 32 := 8#32
  let v2085 : BitVec 32 := Scalar.muli v40 c8_i32_1548
  let v2086 : BitVec 32 := Scalar.addi c0_i32_1549 v2085
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1550 : BitVec 32 := 4#32
  let v2087 : BitVec 32 := Scalar.muli v5 c4_i32_1550
  let v2088 : BitVec 32 := Scalar.addi v2086 v2087
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1551 : BitVec 32 := 1#32
  let v2089 : BitVec 32 := Scalar.muli v43 c1_i32_1551
  let v2090 : BitVec 32 := Scalar.addi v2088 v2089
  v2090.toNat
def k0_dev52 (d0 : Dev nD) : Nat :=
  let c0_i32_1584 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1583 : BitVec 32 := 8#32
  let v2135 : BitVec 32 := Scalar.muli v24 c8_i32_1583
  let v2136 : BitVec 32 := Scalar.addi c0_i32_1584 v2135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1585 : BitVec 32 := 4#32
  let v2137 : BitVec 32 := Scalar.muli v5 c4_i32_1585
  let v2138 : BitVec 32 := Scalar.addi v2136 v2137
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1586 : BitVec 32 := 1#32
  let v2139 : BitVec 32 := Scalar.muli v27 c1_i32_1586
  let v2140 : BitVec 32 := Scalar.addi v2138 v2139
  v2140.toNat
def k0_dev53 (d0 : Dev nD) : Nat :=
  let c0_i32_1620 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1619 : BitVec 32 := 8#32
  let v2185 : BitVec 32 := Scalar.muli v40 c8_i32_1619
  let v2186 : BitVec 32 := Scalar.addi c0_i32_1620 v2185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1621 : BitVec 32 := 4#32
  let v2187 : BitVec 32 := Scalar.muli v5 c4_i32_1621
  let v2188 : BitVec 32 := Scalar.addi v2186 v2187
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1622 : BitVec 32 := 1#32
  let v2189 : BitVec 32 := Scalar.muli v43 c1_i32_1622
  let v2190 : BitVec 32 := Scalar.addi v2188 v2189
  v2190.toNat
def k0_dev54 (d0 : Dev nD) : Nat :=
  let c0_i32_1655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1654 : BitVec 32 := 8#32
  let v2235 : BitVec 32 := Scalar.muli v24 c8_i32_1654
  let v2236 : BitVec 32 := Scalar.addi c0_i32_1655 v2235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1656 : BitVec 32 := 4#32
  let v2237 : BitVec 32 := Scalar.muli v5 c4_i32_1656
  let v2238 : BitVec 32 := Scalar.addi v2236 v2237
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1657 : BitVec 32 := 1#32
  let v2239 : BitVec 32 := Scalar.muli v27 c1_i32_1657
  let v2240 : BitVec 32 := Scalar.addi v2238 v2239
  v2240.toNat
def k0_dev55 (d0 : Dev nD) : Nat :=
  let c0_i32_1691 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1690 : BitVec 32 := 8#32
  let v2285 : BitVec 32 := Scalar.muli v40 c8_i32_1690
  let v2286 : BitVec 32 := Scalar.addi c0_i32_1691 v2285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1692 : BitVec 32 := 4#32
  let v2287 : BitVec 32 := Scalar.muli v5 c4_i32_1692
  let v2288 : BitVec 32 := Scalar.addi v2286 v2287
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1693 : BitVec 32 := 1#32
  let v2289 : BitVec 32 := Scalar.muli v43 c1_i32_1693
  let v2290 : BitVec 32 := Scalar.addi v2288 v2289
  v2290.toNat
def k0_dev56 (d0 : Dev nD) : Nat :=
  let c0_i32_1726 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1725 : BitVec 32 := 8#32
  let v2335 : BitVec 32 := Scalar.muli v24 c8_i32_1725
  let v2336 : BitVec 32 := Scalar.addi c0_i32_1726 v2335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1727 : BitVec 32 := 4#32
  let v2337 : BitVec 32 := Scalar.muli v5 c4_i32_1727
  let v2338 : BitVec 32 := Scalar.addi v2336 v2337
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1728 : BitVec 32 := 1#32
  let v2339 : BitVec 32 := Scalar.muli v27 c1_i32_1728
  let v2340 : BitVec 32 := Scalar.addi v2338 v2339
  v2340.toNat
def k0_dev57 (d0 : Dev nD) : Nat :=
  let c0_i32_1762 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1761 : BitVec 32 := 8#32
  let v2385 : BitVec 32 := Scalar.muli v40 c8_i32_1761
  let v2386 : BitVec 32 := Scalar.addi c0_i32_1762 v2385
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1763 : BitVec 32 := 4#32
  let v2387 : BitVec 32 := Scalar.muli v5 c4_i32_1763
  let v2388 : BitVec 32 := Scalar.addi v2386 v2387
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1764 : BitVec 32 := 1#32
  let v2389 : BitVec 32 := Scalar.muli v43 c1_i32_1764
  let v2390 : BitVec 32 := Scalar.addi v2388 v2389
  v2390.toNat
def k0_dev58 (d0 : Dev nD) : Nat :=
  let c0_i32_1797 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1796 : BitVec 32 := 8#32
  let v2435 : BitVec 32 := Scalar.muli v24 c8_i32_1796
  let v2436 : BitVec 32 := Scalar.addi c0_i32_1797 v2435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1798 : BitVec 32 := 4#32
  let v2437 : BitVec 32 := Scalar.muli v5 c4_i32_1798
  let v2438 : BitVec 32 := Scalar.addi v2436 v2437
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1799 : BitVec 32 := 1#32
  let v2439 : BitVec 32 := Scalar.muli v27 c1_i32_1799
  let v2440 : BitVec 32 := Scalar.addi v2438 v2439
  v2440.toNat
def k0_dev59 (d0 : Dev nD) : Nat :=
  let c0_i32_1833 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_1832 : BitVec 32 := 8#32
  let v2485 : BitVec 32 := Scalar.muli v40 c8_i32_1832
  let v2486 : BitVec 32 := Scalar.addi c0_i32_1833 v2485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1834 : BitVec 32 := 4#32
  let v2487 : BitVec 32 := Scalar.muli v5 c4_i32_1834
  let v2488 : BitVec 32 := Scalar.addi v2486 v2487
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_1835 : BitVec 32 := 1#32
  let v2489 : BitVec 32 := Scalar.muli v43 c1_i32_1835
  let v2490 : BitVec 32 := Scalar.addi v2488 v2489
  v2490.toNat
def k0_dev60 (d0 : Dev nD) : Nat :=
  let c0_i32_1868 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1867 : BitVec 32 := 8#32
  let v2535 : BitVec 32 := Scalar.muli v24 c8_i32_1867
  let v2536 : BitVec 32 := Scalar.addi c0_i32_1868 v2535
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1869 : BitVec 32 := 4#32
  let v2537 : BitVec 32 := Scalar.muli v5 c4_i32_1869
  let v2538 : BitVec 32 := Scalar.addi v2536 v2537
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1870 : BitVec 32 := 1#32
  let v2539 : BitVec 32 := Scalar.muli v27 c1_i32_1870
  let v2540 : BitVec 32 := Scalar.addi v2538 v2539
  v2540.toNat
def k0_dev61 (d0 : Dev nD) : Nat :=
  let c0_i32_1903 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1902 : BitVec 32 := 8#32
  let v2585 : BitVec 32 := Scalar.muli v24 c8_i32_1902
  let v2586 : BitVec 32 := Scalar.addi c0_i32_1903 v2585
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1904 : BitVec 32 := 4#32
  let v2587 : BitVec 32 := Scalar.muli v5 c4_i32_1904
  let v2588 : BitVec 32 := Scalar.addi v2586 v2587
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1905 : BitVec 32 := 1#32
  let v2589 : BitVec 32 := Scalar.muli v27 c1_i32_1905
  let v2590 : BitVec 32 := Scalar.addi v2588 v2589
  v2590.toNat
def k0_dev62 (d0 : Dev nD) : Nat :=
  let c0_i32_1938 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1937 : BitVec 32 := 8#32
  let v2635 : BitVec 32 := Scalar.muli v24 c8_i32_1937
  let v2636 : BitVec 32 := Scalar.addi c0_i32_1938 v2635
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1939 : BitVec 32 := 4#32
  let v2637 : BitVec 32 := Scalar.muli v5 c4_i32_1939
  let v2638 : BitVec 32 := Scalar.addi v2636 v2637
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1940 : BitVec 32 := 1#32
  let v2639 : BitVec 32 := Scalar.muli v27 c1_i32_1940
  let v2640 : BitVec 32 := Scalar.addi v2638 v2639
  v2640.toNat
def k0_dev63 (d0 : Dev nD) : Nat :=
  let c0_i32_1973 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c8_i32_1972 : BitVec 32 := 8#32
  let v2685 : BitVec 32 := Scalar.muli v24 c8_i32_1972
  let v2686 : BitVec 32 := Scalar.addi c0_i32_1973 v2685
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1974 : BitVec 32 := 4#32
  let v2687 : BitVec 32 := Scalar.muli v5 c4_i32_1974
  let v2688 : BitVec 32 := Scalar.addi v2686 v2687
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_1975 : BitVec 32 := 1#32
  let v2689 : BitVec 32 := Scalar.muli v27 c1_i32_1975
  let v2690 : BitVec 32 := Scalar.addi v2688 v2689
  v2690.toNat
def k0_dev64 (d0 : Dev nD) : Nat :=
  let c0_i32_2009 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_2008 : BitVec 32 := 8#32
  let v2735 : BitVec 32 := Scalar.muli v40 c8_i32_2008
  let v2736 : BitVec 32 := Scalar.addi c0_i32_2009 v2735
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2010 : BitVec 32 := 4#32
  let v2737 : BitVec 32 := Scalar.muli v5 c4_i32_2010
  let v2738 : BitVec 32 := Scalar.addi v2736 v2737
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_2011 : BitVec 32 := 1#32
  let v2739 : BitVec 32 := Scalar.muli v43 c1_i32_2011
  let v2740 : BitVec 32 := Scalar.addi v2738 v2739
  v2740.toNat
def k0_dev65 (d0 : Dev nD) : Nat :=
  let c0_i32_2045 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_2044 : BitVec 32 := 8#32
  let v2785 : BitVec 32 := Scalar.muli v40 c8_i32_2044
  let v2786 : BitVec 32 := Scalar.addi c0_i32_2045 v2785
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2046 : BitVec 32 := 4#32
  let v2787 : BitVec 32 := Scalar.muli v5 c4_i32_2046
  let v2788 : BitVec 32 := Scalar.addi v2786 v2787
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_2047 : BitVec 32 := 1#32
  let v2789 : BitVec 32 := Scalar.muli v43 c1_i32_2047
  let v2790 : BitVec 32 := Scalar.addi v2788 v2789
  v2790.toNat
def k0_dev66 (d0 : Dev nD) : Nat :=
  let c0_i32_2081 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_2080 : BitVec 32 := 8#32
  let v2835 : BitVec 32 := Scalar.muli v40 c8_i32_2080
  let v2836 : BitVec 32 := Scalar.addi c0_i32_2081 v2835
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2082 : BitVec 32 := 4#32
  let v2837 : BitVec 32 := Scalar.muli v5 c4_i32_2082
  let v2838 : BitVec 32 := Scalar.addi v2836 v2837
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_2083 : BitVec 32 := 1#32
  let v2839 : BitVec 32 := Scalar.muli v43 c1_i32_2083
  let v2840 : BitVec 32 := Scalar.addi v2838 v2839
  v2840.toNat
def k0_dev67 (d0 : Dev nD) : Nat :=
  let c0_i32_2117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c3_i32_20 : BitVec 32 := 3#32
  let v39 : BitVec 1 := Scalar.cmpi .sle v38 c3_i32_20
  let c0_i32_21 : BitVec 32 := 0#32
  let c1_i32_22 : BitVec 32 := 1#32
  let v40 : BitVec 32 := Scalar.select v39 c0_i32_21 c1_i32_22
  let c8_i32_2116 : BitVec 32 := 8#32
  let v2885 : BitVec 32 := Scalar.muli v40 c8_i32_2116
  let v2886 : BitVec 32 := Scalar.addi c0_i32_2117 v2885
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2118 : BitVec 32 := 4#32
  let v2887 : BitVec 32 := Scalar.muli v5 c4_i32_2118
  let v2888 : BitVec 32 := Scalar.addi v2886 v2887
  let c3_i32_23 : BitVec 32 := 3#32
  let v41 : BitVec 1 := Scalar.cmpi .sle v38 c3_i32_23
  let c7_i32_24 : BitVec 32 := 7#32
  let v42 : BitVec 32 := Scalar.subi c7_i32_24 v38
  let v43 : BitVec 32 := Scalar.select v41 v38 v42
  let c1_i32_2119 : BitVec 32 := 1#32
  let v2889 : BitVec 32 := Scalar.muli v43 c1_i32_2119
  let v2890 : BitVec 32 := Scalar.addi v2888 v2889
  v2890.toNat
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ideal.Plan.lean ====
/-
# The kernel's body as a plan: the same operations in the same order, written with loops

The printed body is one long straight line. Here the same line is written as a handful of loops
over parameterised steps — the local loads, the exchange with the device across `y`, the sends of
the ring in both directions, the copies of the finished pieces to the result and the waits that
drain them — and `body_plan` says the printed body is that, by definitional unfolding.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.SL.Sem

variable {F : FTy → Type} [FloatOps F]

/-! ## Numbers of the ring's transfers -/

/-- The ring's transfers are numbered `t < 56` in program order. Its direction: `true` downwards. -/
def dirOf (t : ℕ) : Bool := if t < 48 then t % 2 == 1 else Nat.ble 52 t
/-- The hop of transfer `t`. -/
def hopOf (t : ℕ) : ℕ := if t < 48 then t / 16 else 3
/-- The piece (of the eight of a chunk) transfer `t` carries. -/
def subOf (t : ℕ) : ℕ := if t < 48 then t % 16 / 2 else t - 48
/-- The number of transfer `t`'s semaphores within its direction. -/
def semOf (t : ℕ) : ℕ := if t < 48 then 8 * (t / 16) + t % 16 / 2 else 24 + (t - 48) % 4
/-- The transfer whose landed piece transfer `t` (of hop 1 to 3) sends on. -/
def predOf (t : ℕ) : ℕ := if t < 48 then t - 16 else if t < 52 then 32 + 2 * (t - 48) else 33 + 2 * (t - 48)
/-- The transfer whose landed piece is the `j`-th of the sixteen not sent on. -/
def lastOf (j : ℕ) : ℕ :=
  if j % 2 = 0 then (if j < 8 then 48 + j / 2 else 32 + 2 * (j / 2)) else (if j < 8 then 33 + 2 * (j / 2) else 48 + j / 2)
/-- The transfer whose departure is waited for `j`-th. -/
def sentOf (j : ℕ) : ℕ :=
  if j < 28 then (if j < 24 then 16 * (j / 8) + 2 * (j % 8) else 24 + j)
  else (if j < 52 then 16 * ((j - 28) / 8) + 2 * ((j - 28) % 8) + 1 else j)
/-- The `k`-th copy to the result: one of the eight own pieces, or the piece of a transfer (8 more than its number). -/
def slotOf (k : ℕ) : ℕ := if k < 8 then k else if k < 48 then 8 + predOf (k + 8) else 8 + lastOf (k - 48)

/-! ## Offsets -/

/-- The row offset of the piece transfer `(dir, h, s)` reads on the sending device. -/
def ringOff (d0 : Dev nD) (dir : Bool) (h s : ℕ) : Fin 2 → ℕ :=
  bif dir then k0_off4 d0 (BitVec.ofNat 32 h) (BitVec.ofNat 32 (128 * s)) else k0_off3 d0 (BitVec.ofNat 32 h) (BitVec.ofNat 32 (128 * s))

/-- The row offset of the piece in slot `n`. -/
def slotOff (d0 : Dev nD) (n : ℕ) : Fin 2 → ℕ :=
  if n < 8 then k0_off1 d0 (BitVec.ofNat 32 (128 * n)) else ringOff d0 (dirOf (n - 8)) (hopOf (n - 8) + 1) (subOf (n - 8))

/-- A device's position on the ring. -/
def pos (c : Dev nD) : ℕ := if c.val / 8 = 0 then c.val % 4 else 7 - c.val % 4

/-- The chunk of the gathered buffer the piece `(dir, h, s)` lies in. -/
def chunkAt (c : Dev nD) (dir : Bool) (h : ℕ) : ℕ := if dir then (pos c + h) % 8 else (pos c + 8 - h) % 8

theorem ringOff_eq_fin : ∀ d0 : Dev nD, ∀ dir : Bool, ∀ h : Fin 5, ∀ s : Fin 8,
    ringOff d0 dir h.val s.val = ![128 * (8 * chunkAt d0 dir h.val + s.val), 0] := by decide +kernel

theorem ringOff_eq (d0 : Dev nD) (dir : Bool) {h s : ℕ} (hh : h < 5) (hs : s < 8) :
    ringOff d0 dir h s = ![128 * (8 * chunkAt d0 dir h + s), 0] := ringOff_eq_fin d0 dir ⟨h, hh⟩ ⟨s, hs⟩

theorem dir_facts : ∀ t : Fin 56, hopOf t.val < 4 ∧ subOf t.val < 8 ∧ semOf t.val < 28 := by decide
theorem hopOf_lt {t : ℕ} (ht : t < 56) : hopOf t < 4 := (dir_facts ⟨t, ht⟩).1
theorem subOf_lt {t : ℕ} (ht : t < 56) : subOf t < 8 := (dir_facts ⟨t, ht⟩).2.1
theorem semOf_lt {t : ℕ} (ht : t < 56) : semOf t < 28 := (dir_facts ⟨t, ht⟩).2.2

/-- The row block (of 64) of slot `n` on device `c`. -/
def slotBlk (c : Dev nD) (n : ℕ) : ℕ :=
  if n < 8 then 8 * pos c + n else 8 * chunkAt c (dirOf (n - 8)) (hopOf (n - 8) + 1) + subOf (n - 8)

theorem pos_lt (c : Dev nD) : pos c < 8 := by unfold pos; split <;> omega
theorem chunkAt_lt (c : Dev nD) (dir : Bool) (h : ℕ) : chunkAt c dir h < 8 := by
  unfold chunkAt; split <;> exact Nat.mod_lt _ (by decide)

theorem slotOff_eq (c : Dev nD) {n : ℕ} (hn : n < 64) : slotOff c n = ![128 * slotBlk c n, 0] := by
  unfold slotOff slotBlk
  split
  · rename_i h
    rw [show k0_off1 c (BitVec.ofNat 32 (128 * n)) = _ from k0_off1_eq c ⟨n, h⟩]
    show ![1024 * pos c + 128 * n, 0] = _
    rw [show 1024 * pos c + 128 * n = 128 * (8 * pos c + n) by omega]
  · have ht : n - 8 < 56 := by omega
    rw [ringOff_eq c _ (by have := hopOf_lt ht; omega) (subOf_lt ht)]

theorem slotBlk_lt (c : Dev nD) {n : ℕ} (hn : n < 64) : slotBlk c n < 64 := by
  unfold slotBlk
  split
  · have := pos_lt c; omega
  · have := chunkAt_lt c (dirOf (n - 8)) (hopOf (n - 8) + 1); have := subOf_lt (t := n - 8) (by omega); omega

/-- 128 whole rows at a multiple of 128 lie inside a tall buffer, -/
theorem inb8 {b : ℕ} (hb : b < 64) : ∀ a, (![128 * b, 0] : Fin 2 → ℕ) a + S128x1024.size a ≤ S8192x1024.size a := by
  intro a; match a with
  | 0 => show 128 * b + 128 ≤ 8192; omega
  | 1 => exact le_rfl
/-- and inside a chunk. -/
theorem inb1 {s : ℕ} (hs : s < 8) : ∀ a, (![128 * s, 0] : Fin 2 → ℕ) a + S128x1024.size a ≤ S1024x1024.size a := by
  intro a; match a with
  | 0 => show 128 * s + 128 ≤ 1024; omega
  | 1 => exact le_rfl

theorem words8_fin : ∀ b : Fin 64, (Rect.unit (s := S8192x1024) ![128 * b.val, 0] S128x1024.size (inb8 b.isLt)).WholeWords (EltTy.packing .bf16) := by decide +kernel
theorem packed8_fin : ∀ b : Fin 64, (Rect.unit (s := S8192x1024) ![128 * b.val, 0] S128x1024.size (inb8 b.isLt)).PackedRows (EltTy.packing .bf16) := by decide +kernel
theorem words1_fin : ∀ s : Fin 8, (Rect.unit (s := S1024x1024) ![128 * s.val, 0] S128x1024.size (inb1 s.isLt)).WholeWords (EltTy.packing .bf16) := by decide +kernel
theorem packed1_fin : ∀ s : Fin 8, (Rect.unit (s := S1024x1024) ![128 * s.val, 0] S128x1024.size (inb1 s.isLt)).PackedRows (EltTy.packing .bf16) := by decide +kernel

/-- An offset that is the start of one of the 64 row blocks of a tall buffer. -/
def IsBlk (o : Fin 2 → ℕ) : Prop := ∃ b : Fin 64, o = ![128 * b.val, 0]

theorem IsBlk.inb {o : Fin 2 → ℕ} (h : IsBlk o) : ∀ a, o a + S128x1024.size a ≤ S8192x1024.size a := by
  obtain ⟨b, rfl⟩ := h; exact inb8 b.isLt
theorem IsBlk.words {o : Fin 2 → ℕ} (h : IsBlk o) : (Rect.unit (s := S8192x1024) o S128x1024.size h.inb).WholeWords (EltTy.packing .bf16) := by
  obtain ⟨b, rfl⟩ := h; exact words8_fin b
theorem IsBlk.packed {o : Fin 2 → ℕ} (h : IsBlk o) : (Rect.unit (s := S8192x1024) o S128x1024.size h.inb).PackedRows (EltTy.packing .bf16) := by
  obtain ⟨b, rfl⟩ := h; exact packed8_fin b

theorem isBlk_slot (c : Dev nD) (n : Fin 64) : IsBlk (slotOff c n.val) := ⟨⟨slotBlk c n.val, slotBlk_lt c n.isLt⟩, slotOff_eq c n.isLt⟩
theorem isBlk_ring (c : Dev nD) (t : Fin 56) : IsBlk (ringOff c (dirOf t.val) (hopOf t.val) (subOf t.val)) :=
  ⟨⟨8 * chunkAt c (dirOf t.val) (hopOf t.val) + subOf t.val, by
      have := chunkAt_lt c (dirOf t.val) (hopOf t.val); have := subOf_lt t.isLt; omega⟩,
    ringOff_eq c _ (by have := hopOf_lt t.isLt; omega) (subOf_lt t.isLt)⟩
theorem isBlk_own (c : Dev nD) (s : Fin 8) : IsBlk (k0_off2 c (BitVec.ofNat 32 (128 * s.val))) :=
  ⟨⟨8 * pos c + s.val, by have := pos_lt c; omega⟩, by
    rw [k0_off2_eq c s]; show ![1024 * pos c + 128 * s.val, 0] = _
    rw [show 1024 * pos c + 128 * s.val = 128 * (8 * pos c + s.val) by omega]⟩
theorem isBlk_load (c : Dev nD) (s : Fin 8) : IsBlk (k0_off1 c (BitVec.ofNat 32 (128 * s.val))) :=
  ⟨⟨8 * pos c + s.val, by have := pos_lt c; omega⟩, by
    rw [k0_off1_eq c s]; show ![1024 * pos c + 128 * s.val, 0] = _
    rw [show 1024 * pos c + 128 * s.val = 128 * (8 * pos c + s.val) by omega]⟩

theorem predOf_lt (k : Fin 40) : predOf (16 + k.val) < 56 := by revert k; decide
theorem lastOf_lt (j : Fin 16) : lastOf j.val < 56 := by revert j; decide
theorem sentOf_lt (j : Fin 56) : sentOf j.val < 56 := by revert j; decide
theorem slotOf_lt (k : Fin 64) : slotOf k.val < 64 := by revert k; decide

/-! ## Buffers, semaphores and pieces -/

abbrev xM : Memref sig .tc .hbm S8192x1024 .f32 := Memref.whole main_arg0
abbrev oM : Memref sig .tc .hbm S8192x1024 .bf16 := Memref.whole main_v1
abbrev gM : Memref sig .tc .vmem S8192x1024 .bf16 := Memref.whole cc0_scratch0
abbrev cM : Memref sig .tc .vmem S1024x1024 .f32 := Memref.whole cc0_scratch1
abbrev pM : Memref sig .tc .vmem S1024x1024 .bf16 := Memref.whole cc0_scratch2
abbrev sM : Memref sig .tc .vmem S1024x1024 .bf16 := Memref.whole cc0_scratch3

/-- 128 rows of a tall buffer at an offset. -/
abbrev rect8 {o : Fin 2 → ℕ} (h : IsBlk o) : Rect S8192x1024 := Rect.unit (s := S8192x1024) o S128x1024.size h.inb
/-- Piece `s` of a chunk. -/
abbrev rect1 (s : Fin 8) : Rect S1024x1024 := Rect.unit (s := S1024x1024) ![128 * s.val, 0] S128x1024.size (inb1 s.isLt)

abbrev xP {o : Fin 2 → ℕ} (h : IsBlk o) : Memref sig .tc .hbm S128x1024 .f32 := xM.slice (rect8 h) (fun _ => rfl)
abbrev oP {o : Fin 2 → ℕ} (h : IsBlk o) : Memref sig .tc .hbm S128x1024 .bf16 := oM.slice (rect8 h) (fun _ => rfl)
abbrev gP {o : Fin 2 → ℕ} (h : IsBlk o) : Memref sig .tc .vmem S128x1024 .bf16 := gM.slice (rect8 h) (fun _ => rfl)
abbrev cP (s : Fin 8) : Memref sig .tc .vmem S128x1024 .f32 := cM.slice (rect1 s) (fun _ => rfl)
abbrev pP (s : Fin 8) : Memref sig .tc .vmem S128x1024 .bf16 := pM.slice (rect1 s) (fun _ => rfl)
abbrev sP (s : Fin 8) : Memref sig .tc .vmem S128x1024 .bf16 := sM.slice (rect1 s) (fun _ => rfl)

theorem inbS8 (i : Fin 8) : ∀ a, (![i.val] : Fin 1 → ℕ) a + S1.size a ≤ S8.size a := by
  intro a; match a with | 0 => show i.val + 1 ≤ 8; omega
theorem inbS28 {i : ℕ} (h : i < 28) : ∀ a, (![i] : Fin 1 → ℕ) a + S1.size a ≤ S28.size a := by
  intro a; match a with | 0 => show i + 1 ≤ 28; omega

/-- The `i`-th of eight semaphores, -/
abbrev sem8 (A : DmaSems sig S8) (i : Fin 8) : DmaSem sig := ((A.slice (Rect.unit (s := S8) ![i.val] S1.size (inbS8 i))).squeeze S_ squeezes_S1_S_).sem
/-- of twenty-eight. -/
abbrev sem28 (A : DmaSems sig S28) {i : ℕ} (h : i < 28) : DmaSem sig := ((A.slice (Rect.unit (s := S28) ![i] S1.size (inbS28 h))).squeeze S_ squeezes_S1_S_).sem

abbrev loadSem (s : Fin 8) : DmaSem sig := sem8 cc0_scratch4 s
abbrev outSem : DmaSem sig := cc0_scratch5.sem
abbrev ySend (s : Fin 8) : DmaSem sig := sem8 cc0_scratch6 s
abbrev yRecv (s : Fin 8) : DmaSem sig := sem8 cc0_scratch7 s
/-- The two semaphores of ring transfer `t`: it has left, it has landed. -/
def rSend (t : Fin 56) : DmaSem sig := bif dirOf t.val then sem28 cc0_scratch10 (semOf_lt t.isLt) else sem28 cc0_scratch8 (semOf_lt t.isLt)
def rRecv (t : Fin 56) : DmaSem sig := bif dirOf t.val then sem28 cc0_scratch11 (semOf_lt t.isLt) else sem28 cc0_scratch9 (semOf_lt t.isLt)

abbrev barS : Sem sig := (SemArray.scalar (sig.barrier 0 rfl) : Sems sig S_).sem

/-- The device across `y`, the next one up and the next one down the ring, as the program names them. -/
def yDev (d0 : Dev nD) : Dev nD := ⟨k0_dev1 d0, k0_dev1_lt d0⟩
def upDev (d0 : Dev nD) : Dev nD := ⟨k0_dev2 d0, k0_dev2_lt d0⟩
def downDev (d0 : Dev nD) : Dev nD := ⟨k0_dev3 d0, k0_dev3_lt d0⟩
/-- The device transfers of a direction go to. -/
def toDev (d0 : Dev nD) (dir : Bool) : Dev nD := bif dir then downDev d0 else upDev d0

/-! ## Steps -/

/-- A step of the body. -/
abbrev Step (F : FTy → Type) := Prog (TpuEff nD τ sig (Elt F) Λ₀ .tc) PUnit

/-- The steps `f 0`, …, `f (n-1)` in order, then `k`. -/
def steps : (n : ℕ) → (Fin n → Step F) → Step F → Step F
  | 0, _, k => k
  | n + 1, f, k => (f 0).bind fun _ => steps n (fun i => f i.succ) k

variable (d0 : Dev nD)

def loadStep (s : Fin 8) : Step F :=
  Prog.lift (.enqueueDma (xP (isBlk_load d0 s)) (.here (cP s)) (.dma (loadSem s)) (View.wordExact_bits rfl) (View.wordExact_bits rfl) ⟨Or.inl rfl, trivial⟩)

def barStep : Step F :=
  (semSignalWord (yDev d0) barS 1#32).bind fun _ => (semSignalWord (upDev d0) barS 1#32).bind fun _ =>
    (semSignalWord (downDev d0) barS 1#32).bind fun _ => semWaitWord barS 3#32

/-- Piece `s` of the local chunk has arrived: its narrowed copy to the device across `y`. -/
def crossStep (s : Fin 8) : Step F :=
  .op (.waitDma2 (loadSem s) (xP (isBlk_load d0 s)) (cP s) (View.wordExact_bits rfl) (View.wordExact_bits rfl)) fun _ =>
  .op (.load cM (rect1 s).toLoadRect (View.loadsAt_vmem h_S128x1024)) fun v =>
  .op (.load sM (rect1 s).toLoadRect (View.loadsAt_vmem h_S128x1024)) fun _ =>
  .op (.store sM (rect1 s) (k0_pay3 v) Finset.univ
      (View.stores_vmem h_S128x1024 ((Memref.isWhole_whole _).storeExact_slice rfl _ (packed1_fin s)) (fun _ => rfl)) (.inl rfl)) fun _ =>
  Prog.lift (.enqueueDma (sP s) (.remote (Dev.tc (yDev d0)) (pP s) (.dma (ySend s))) (.dma (yRecv s))
    ((Memref.isWhole_whole _).wordExact_slice rfl _ (words1_fin s)) ((Memref.isWhole_whole _).wordExact_slice rfl _ (words1_fin s)) ⟨⟨rfl, Or.inl rfl⟩, trivial⟩)

/-- Send ring transfer `t`. -/
def ringSend (t : Fin 56) : Step F :=
  Prog.lift (.enqueueDma (gP (isBlk_ring d0 t)) (.remote (Dev.tc (toDev d0 (dirOf t.val))) (gP (isBlk_ring d0 t)) (.dma (rSend t))) (.dma (rRecv t))
    ((Memref.isWhole_whole _).wordExact_slice rfl _ (isBlk_ring d0 t).words) ((Memref.isWhole_whole _).wordExact_slice rfl _ (isBlk_ring d0 t).words) ⟨⟨rfl, Or.inl rfl⟩, trivial⟩)

/-- Start the copy of slot `n`'s piece to the result. -/
def outStep (n : Fin 64) : Step F :=
  Prog.lift (.enqueueDma (gP (isBlk_slot d0 n)) (.here (oP (isBlk_slot d0 n))) (.dma outSem)
    ((Memref.isWhole_whole _).wordExact_slice rfl _ (isBlk_slot d0 n).words) ((Memref.isWhole_whole _).wordExact_slice rfl _ (isBlk_slot d0 n).words) ⟨Or.inl rfl, trivial⟩)

/-- Piece `s` from across `y` has arrived: the sum of both, sent both ways round the ring, copied to the result. -/
def sumStep (s : Fin 8) : Step F :=
  .op (.waitDma2 (ySend s) (pP s) (sP s) ((Memref.isWhole_whole _).wordExact_slice rfl _ (words1_fin s)) ((Memref.isWhole_whole _).wordExact_slice rfl _ (words1_fin s))) fun _ =>
  .op (.waitDma2 (yRecv s) (sP s) (pP s) ((Memref.isWhole_whole _).wordExact_slice rfl _ (words1_fin s)) ((Memref.isWhole_whole _).wordExact_slice rfl _ (words1_fin s))) fun _ =>
  .op (.load cM (rect1 s).toLoadRect (View.loadsAt_vmem h_S128x1024)) fun v =>
  .op (.load pM (rect1 s).toLoadRect (View.loadsAt_vmem h_S128x1024)) fun w =>
  .op (.load gM (rect8 (isBlk_own d0 s)).toLoadRect (View.loadsAt_vmem h_S128x1024)) fun _ =>
  .op (.store gM (rect8 (isBlk_own d0 s)) (k0_pay10 v w) Finset.univ
      (View.stores_vmem h_S128x1024 ((Memref.isWhole_whole _).storeExact_slice rfl _ (isBlk_own d0 s).packed) (fun _ => rfl)) (.inl rfl)) fun _ =>
  (ringSend d0 ⟨2 * s.val, by omega⟩).bind fun _ => (ringSend d0 ⟨2 * s.val + 1, by omega⟩).bind fun _ =>
    outStep d0 ⟨s.val, by omega⟩

def recvStep (t : Fin 56) : Step F :=
  Prog.lift (.waitDma2 (rRecv t) (gP (isBlk_ring d0 t)) (gP (isBlk_ring d0 t))
    ((Memref.isWhole_whole _).wordExact_slice rfl _ (isBlk_ring d0 t).words) ((Memref.isWhole_whole _).wordExact_slice rfl _ (isBlk_ring d0 t).words))

/-- A piece has landed: send it on by transfer `16 + k` and copy it to the result. -/
def hopStep (k : Fin 40) : Step F :=
  (recvStep d0 ⟨predOf (16 + k.val), predOf_lt k⟩).bind fun _ => (ringSend d0 ⟨16 + k.val, by omega⟩).bind fun _ =>
    outStep d0 ⟨8 + predOf (16 + k.val), by have := predOf_lt k; omega⟩

/-- A piece that is not sent on has landed: copy it to the result. -/
def lastStep (j : Fin 16) : Step F :=
  (recvStep d0 ⟨lastOf j.val, lastOf_lt j⟩).bind fun _ => outStep d0 ⟨8 + lastOf j.val, by have := lastOf_lt j; omega⟩

def sentStep (j : Fin 56) : Step F :=
  Prog.lift (.waitDma2 (rSend ⟨sentOf j.val, sentOf_lt j⟩) (gP (isBlk_ring d0 ⟨sentOf j.val, sentOf_lt j⟩)) (gP (isBlk_ring d0 ⟨sentOf j.val, sentOf_lt j⟩))
    ((Memref.isWhole_whole _).wordExact_slice rfl _ (isBlk_ring d0 _).words) ((Memref.isWhole_whole _).wordExact_slice rfl _ (isBlk_ring d0 _).words))

def drainStep (k : Fin 64) : Step F :=
  Prog.lift (.waitDma2 outSem (gP (isBlk_slot d0 ⟨slotOf k.val, slotOf_lt k⟩)) (oP (isBlk_slot d0 ⟨slotOf k.val, slotOf_lt k⟩))
    ((Memref.isWhole_whole _).wordExact_slice rfl _ (isBlk_slot d0 _).words) ((Memref.isWhole_whole _).wordExact_slice rfl _ (isBlk_slot d0 _).words))

/-- The body, on device `d0`. -/
def plan (d0 : Dev nD) : Step F :=
  steps 8 (loadStep d0) <| (barStep d0).bind fun _ => steps 8 (crossStep d0) <| steps 8 (sumStep d0) <|
    steps 40 (hopStep d0) <| steps 16 (lastStep d0) <| steps 56 (sentStep d0) <| steps 64 (drainStep d0) <| .ret ⟨⟩

/-- The printed body is the plan. -/
theorem body_plan :
    cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11
      = (Prog.lift .deviceId).bind fun d0 => plan d0 := by
  exact rfl

end Cert.KernelIdeal.Ring
end
-- ==== Proof.Ideal.Blocks.lean ====
/-
# Row blocks and contents

The tall buffers are 64 blocks of 128 rows, the chunk buffers eight. Which block each slot and each transfer of
the ring names on a device, how the devices of the ring number them, and what every buffer holds: a device's own
chunk of the sum (`own`), and the whole result of its column (`G`).
-/
module

public import proofs.«01_k».proof.Proof.Ideal.Plan
public import Idealize.ShloMosaic.Lib.Pipeline.Value

@[expose] public section

noncomputable section

namespace Cert.KernelIdeal.Ring

open Cert.KernelIdeal Cert.KernelIdeal.Gen
open Idealize.ShloMosaic Idealize.SL.Sem
open Idealize.ShloMosaic.TcCoe

variable {F : FTy → Type} [FloatOps F]

/-! ## The devices -/

theorem y_y (c : Dev nD) : yDev (yDev c) = c := by revert c; decide +kernel
theorem up_down (c : Dev nD) : upDev (downDev c) = c := by revert c; decide +kernel
theorem down_up (c : Dev nD) : downDev (upDev c) = c := by revert c; decide +kernel

/-- The device transfers of a direction come from. -/
def fromDev (c : Dev nD) (dir : Bool) : Dev nD := toDev c (!dir)
theorem to_from (c : Dev nD) (dir : Bool) : toDev (fromDev c dir) dir = c := by
  cases dir
  · exact up_down c
  · exact down_up c
theorem from_to (c : Dev nD) (dir : Bool) : fromDev (toDev c dir) dir = c := by
  cases dir
  · exact down_up c
  · exact up_down c

def yEquiv : Dev nD ≃ Dev nD := ⟨yDev, yDev, y_y, y_y⟩
def toEquiv (dir : Bool) : Dev nD ≃ Dev nD := ⟨(toDev · dir), (fromDev · dir), (from_to · dir), (to_from · dir)⟩

/-- A device's column of the mesh: its coordinate on `y`. -/
def col (c : Dev nD) : ℕ := c.val / 4 % 2
theorem col_lt (c : Dev nD) : col c < 2 := Nat.mod_lt _ (by decide)

/-- The device of column `y` at position `p` of the ring. -/
def ringDev (y p : ℕ) (hy : y < 2) (hp : p < 8) : Dev nD :=
  ⟨if p < 4 then 4 * y + p else 8 + 4 * y + (7 - p), by show _ < 16; split <;> omega⟩

theorem ringDev_pos (c : Dev nD) : ringDev (col c) (pos c) (col_lt c) (pos_lt c) = c := by revert c; decide +kernel
theorem pos_y (c : Dev nD) : pos (yDev c) = pos c := by revert c; decide +kernel
theorem col_to (c : Dev nD) (dir : Bool) : col (toDev c dir) = col c := by revert c dir; decide +kernel

/-! ## Blocks -/

/-- The block of slot `n`. -/
def slotB (c : Dev nD) (n : Fin 64) : Fin 64 := ⟨slotBlk c n.val, slotBlk_lt c n.isLt⟩
/-- The block ring transfer `t` carries, as its sender names it. -/
def ringB (c : Dev nD) (t : Fin 56) : Fin 64 :=
  ⟨8 * chunkAt c (dirOf t.val) (hopOf t.val) + subOf t.val, by
    have := chunkAt_lt c (dirOf t.val) (hopOf t.val); have := subOf_lt t.isLt; omega⟩

theorem slotOff_at (c : Dev nD) (n : Fin 64) : slotOff c n.val = ![128 * (slotB c n).val, 0] := slotOff_eq c n.isLt
theorem ringOff_at (c : Dev nD) (t : Fin 56) : ringOff c (dirOf t.val) (hopOf t.val) (subOf t.val) = ![128 * (ringB c t).val, 0] :=
  ringOff_eq c _ (by have := hopOf_lt t.isLt; omega) (subOf_lt t.isLt)

/-- The slot of the piece ring transfer `t` lands in. -/
def landSlot (t : Fin 56) : Fin 64 := ⟨8 + t.val, by omega⟩
/-- The slot of own piece `s`. -/
def ownSlot (s : Fin 8) : Fin 64 := ⟨s.val, by omega⟩
/-- The ring transfers that carry own piece `s`, -/
def evenT (s : Fin 8) : Fin 56 := ⟨2 * s.val, by omega⟩
def oddT (s : Fin 8) : Fin 56 := ⟨2 * s.val + 1, by omega⟩
/-- the later ones, the transfers they send on, and those whose piece is not sent on. -/
def onT (k : Fin 40) : Fin 56 := ⟨16 + k.val, by omega⟩
def predT (k : Fin 40) : Fin 56 := ⟨predOf (16 + k.val), predOf_lt k⟩
def lastT (j : Fin 16) : Fin 56 := ⟨lastOf j.val, lastOf_lt j⟩
def sentT (j : Fin 56) : Fin 56 := ⟨sentOf j.val, sentOf_lt j⟩

theorem loadOff_at (c : Dev nD) (s : Fin 8) : k0_off1 c (BitVec.ofNat 32 (128 * s.val)) = ![128 * (slotB c (ownSlot s)).val, 0] := by
  rw [k0_off1_eq c s]; show ![1024 * pos c + 128 * s.val, 0] = ![128 * slotBlk c s.val, 0]
  rw [slotBlk, if_pos s.isLt, show 1024 * pos c + 128 * s.val = 128 * (8 * pos c + s.val) by omega]
theorem ownOff_at (c : Dev nD) (s : Fin 8) : k0_off2 c (BitVec.ofNat 32 (128 * s.val)) = ![128 * (slotB c (ownSlot s)).val, 0] := by
  rw [k0_off2_eq c s]; show ![1024 * pos c + 128 * s.val, 0] = ![128 * slotBlk c s.val, 0]
  rw [slotBlk, if_pos s.isLt, show 1024 * pos c + 128 * s.val = 128 * (8 * pos c + s.val) by omega]

/-- What a transfer carries its receiver names as the slot it lands in; -/
theorem ringB_land (c : Dev nD) (t : Fin 56) : slotB (toDev c (dirOf t.val)) (landSlot t) = ringB c t := by revert c t; decide +kernel
/-- the first sixteen carry the sender's own pieces, -/
theorem ringB_even (c : Dev nD) (s : Fin 8) : ringB c (evenT s) = slotB c (ownSlot s) := by revert c s; decide +kernel
theorem ringB_odd (c : Dev nD) (s : Fin 8) : ringB c (oddT s) = slotB c (ownSlot s) := by revert c s; decide +kernel
/-- the later ones what an earlier one brought. -/
theorem ringB_on (c : Dev nD) (k : Fin 40) : ringB c (onT k) = slotB c (landSlot (predT k)) := by revert c k; decide +kernel

theorem slotB_injective (c : Dev nD) : Function.Injective (slotB c) := by revert c; decide +kernel
def slotEquiv (c : Dev nD) : Fin 64 ≃ Fin 64 := Equiv.ofBijective (slotB c) ((Finite.injective_iff_bijective).mp (slotB_injective c))

/-- The slots: own pieces, pieces sent on, pieces not sent on. -/
def slotsEquiv : (Fin 8 ⊕ Fin 40) ⊕ Fin 16 ≃ Fin 64 :=
  Equiv.ofBijective (Sum.elim (Sum.elim ownSlot fun k => landSlot (predT k)) fun j => landSlot (lastT j))
    ((Fintype.bijective_iff_injective_and_card _).mpr ⟨by decide +kernel, by decide⟩)
/-- The transfers, as sent: the own pieces' first, then those sent on; -/
def sendsEquiv : (Fin 8 ⊕ Fin 8) ⊕ Fin 40 ≃ Fin 56 :=
  Equiv.ofBijective (Sum.elim (Sum.elim evenT oddT) onT)
    ((Fintype.bijective_iff_injective_and_card _).mpr ⟨by decide +kernel, by decide⟩)
/-- as received; -/
def recvsEquiv : Fin 40 ⊕ Fin 16 ≃ Fin 56 :=
  Equiv.ofBijective (Sum.elim predT lastT)
    ((Fintype.bijective_iff_injective_and_card _).mpr ⟨by decide +kernel, by decide⟩)
/-- as drained. -/
def sentEquiv : Fin 56 ≃ Fin 56 := Equiv.ofBijective sentT ((Fintype.bijective_iff_injective_and_card _).mpr ⟨by decide +kernel, rfl⟩)
/-- The slots, own and landed. -/
def slots2Equiv : Fin 8 ⊕ Fin 56 ≃ Fin 64 :=
  Equiv.ofBijective (Sum.elim ownSlot landSlot) ((Fintype.bijective_iff_injective_and_card _).mpr ⟨by decide +kernel, by decide⟩)

abbrev blkR (b : Fin 64) : Rect S8192x1024 := Rect.unit (s := S8192x1024) ![128 * b.val, 0] S128x1024.size (inb8 b.isLt)
/-- The elements of a block of a tall buffer, of a chunk buffer; an element of the block by its place in it. -/
def B8 (b : Fin 64) : Finset S8192x1024.Idx := (blkR b).set
def B1 (s : Fin 8) : Finset S1024x1024.Idx := (rect1 s).set
def e8 (b : Fin 64) : S128x1024.Idx ↪ S8192x1024.Idx := (blkR b).emb
def e1 (s : Fin 8) : S128x1024.Idx ↪ S1024x1024.Idx := (rect1 s).emb

theorem e8_0 (b : Fin 64) (x : S128x1024.Idx) : (e8 b x 0).val = 128 * b.val + (x 0).val := by
  rw [e8, Rect.emb_apply]; show 128 * b.val + 1 * (x 0).val = _; omega
theorem e8_1 (b : Fin 64) (x : S128x1024.Idx) : (e8 b x 1).val = (x 1).val := by
  rw [e8, Rect.emb_apply]; show 0 + 1 * (x 1).val = _; omega
theorem e1_0 (s : Fin 8) (x : S128x1024.Idx) : (e1 s x 0).val = 128 * s.val + (x 0).val := by
  rw [e1, Rect.emb_apply]; show 128 * s.val + 1 * (x 0).val = _; omega
theorem e1_1 (s : Fin 8) (x : S128x1024.Idx) : (e1 s x 1).val = (x 1).val := by
  rw [e1, Rect.emb_apply]; show 0 + 1 * (x 1).val = _; omega

theorem mem_B8 {b : Fin 64} {i : S8192x1024.Idx} : i ∈ B8 b ↔ (i 0).val / 128 = b.val := by
  unfold B8; rw [Rect.mem_set_unit]
  constructor
  · intro h; have := h 0; change 128 * b.val ≤ (i 0).val ∧ (i 0).val < 128 * b.val + 128 at this; omega
  · intro h a
    match a with
    | 0 => show 128 * b.val ≤ (i 0).val ∧ (i 0).val < 128 * b.val + 128; omega
    | 1 => have : (i 1).val < 1024 := (i 1).isLt
           show 0 ≤ (i 1).val ∧ (i 1).val < 0 + 1024; omega
theorem mem_B1 {b : Fin 8} {i : S1024x1024.Idx} : i ∈ B1 b ↔ (i 0).val / 128 = b.val := by
  unfold B1; rw [Rect.mem_set_unit]
  constructor
  · intro h; have := h 0; change 128 * b.val ≤ (i 0).val ∧ (i 0).val < 128 * b.val + 128 at this; omega
  · intro h a
    match a with
    | 0 => show 128 * b.val ≤ (i 0).val ∧ (i 0).val < 128 * b.val + 128; omega
    | 1 => have : (i 1).val < 1024 := (i 1).isLt
           show 0 ≤ (i 1).val ∧ (i 1).val < 0 + 1024; omega

theorem B8_disj (a b : Fin 64) (h : a ≠ b) : Disjoint (B8 a) (B8 b) := by
  rw [Finset.disjoint_left]; intro i hi hj; exact h (Fin.ext ((mem_B8.mp hi).symm.trans (mem_B8.mp hj)))
theorem B1_disj (a b : Fin 8) (h : a ≠ b) : Disjoint (B1 a) (B1 b) := by
  rw [Finset.disjoint_left]; intro i hi hj; exact h (Fin.ext ((mem_B1.mp hi).symm.trans (mem_B1.mp hj)))
theorem B8_cover : (Finset.univ : Finset (Fin 64)).biUnion B8 = Finset.univ := by
  ext i; rw [Finset.mem_biUnion]
  have : (i 0).val < 8192 := (i 0).isLt
  exact ⟨fun _ => Finset.mem_univ _, fun _ => ⟨⟨(i 0).val / 128, by omega⟩, Finset.mem_univ _, mem_B8.mpr rfl⟩⟩
theorem B1_cover : (Finset.univ : Finset (Fin 8)).biUnion B1 = Finset.univ := by
  ext i; rw [Finset.mem_biUnion]
  have : (i 0).val < 1024 := (i 0).isLt
  exact ⟨fun _ => Finset.mem_univ _, fun _ => ⟨⟨(i 0).val / 128, by omega⟩, Finset.mem_univ _, mem_B1.mpr rfl⟩⟩

theorem B8_eq_map (b : Fin 64) : B8 b = Finset.univ.map (e8 b) := (Rect.map_emb_univ _).symm
theorem B1_eq_map (s : Fin 8) : B1 s = Finset.univ.map (e1 s) := (Rect.map_emb_univ _).symm

/-! ## Contents -/

variable (m : (ℓ : Loc nD τ sig) → Buf (Elt F) ℓ)

/-- An index of the 8192 rows: row `j` of chunk `p`. -/
def big (p : ℕ) (hp : p < 8) (j : S1024x1024.Idx) : S8192x1024.Idx := fun a => match a with
  | 0 => ⟨1024 * p + (j 0).val, by have : (j 0).val < 1024 := (j 0).isLt; show _ < 8192; omega⟩
  | 1 => j 1
/-- The row of an index within its chunk. -/
def small (i : S8192x1024.Idx) : S1024x1024.Idx := fun a => match a with
  | 0 => ⟨(i 0).val % 1024, by show _ < 1024; omega⟩
  | 1 => i 1
theorem chunk_lt (i : S8192x1024.Idx) : (i 0).val / 1024 < 8 := by
  have : (i 0).val < 8192 := (i 0).isLt
  omega

theorem idx_ext {n k : ℕ} {i j : (⟨2, ![n, k]⟩ : Shape).Idx} (h0 : (i 0).val = (j 0).val) (h1 : (i 1).val = (j 1).val) : i = j := by
  funext a; match a with
  | 0 => exact Fin.ext h0
  | 1 => exact Fin.ext h1

/-- The argument on device `c`, -/
def xIn (c : Dev nD) : S8192x1024.Idx → Elt F .f32 := m ((c : Thread nD τ).loc main_arg0)
/-- the device's chunk of it, -/
def XC (c : Dev nD) : S1024x1024.Idx → Elt F .f32 := fun j => xIn m c (big (pos c) (pos_lt c) j)
/-- narrowed, -/
def SB (c : Dev nD) : S1024x1024.Idx → Elt F .bf16 := fun j => FloatOps.truncf .bf16 bitsLt_bf16_f32 (XC m c j)
/-- the same chunk of the device across `y`, narrowed, -/
def PC (c : Dev nD) : S1024x1024.Idx → Elt F .bf16 := SB m (yDev c)
/-- and the sum of both. -/
def own (c : Dev nD) : S1024x1024.Idx → Elt F .bf16 := fun j =>
  FloatOps.truncf .bf16 bitsLt_bf16_f32 (FloatOps.addf (XC m c j) (FloatOps.extf .f32 bitsLt_bf16_f32 (PC m c j)))
/-- The result of column `y`: chunk `p` is the sum of the device at position `p`. -/
def Gy (y : ℕ) (hy : y < 2) : S8192x1024.Idx → Elt F .bf16 := fun i => own m (ringDev y ((i 0).val / 1024) hy (chunk_lt i)) (small i)
/-- The result on device `c`. -/
def G (c : Dev nD) : S8192x1024.Idx → Elt F .bf16 := Gy m (col c) (col_lt c)

theorem G_to (c : Dev nD) (dir : Bool) : G m (toDev c dir) = G m c := by
  unfold G; congr 1; exact col_to c dir

theorem slotB_own (c : Dev nD) (s : Fin 8) : (slotB c (ownSlot s)).val = 8 * pos c + s.val := by
  show slotBlk c s.val = _; rw [slotBlk, if_pos s.isLt]

/-- A piece of the argument is a piece of the chunk. -/
theorem xIn_piece (c : Dev nD) (s : Fin 8) (x : S128x1024.Idx) : xIn m c (e8 (slotB c (ownSlot s)) x) = XC m c (e1 s x) := by
  unfold XC; congr 1
  refine idx_ext ?_ ?_
  · rw [e8_0, slotB_own]; show _ = 1024 * pos c + (e1 s x 0).val; rw [e1_0]; omega
  · rw [e8_1]; show _ = (e1 s x 1).val; rw [e1_1]

/-- The sum of a piece is the result's piece. -/
theorem own_piece (c : Dev nD) (s : Fin 8) (x : S128x1024.Idx) : own m c (e1 s x) = G m c (e8 (slotB c (ownSlot s)) x) := by
  unfold G Gy
  have hx : (x 0).val < 128 := (x 0).isLt
  have h0 : (e8 (slotB c (ownSlot s)) x 0).val = 1024 * pos c + (128 * s.val + (x 0).val) := by rw [e8_0, slotB_own]; omega
  have hp : (e8 (slotB c (ownSlot s)) x 0).val / 1024 = pos c := by rw [h0]; omega
  have hd : ringDev (col c) ((e8 (slotB c (ownSlot s)) x 0).val / 1024) (col_lt c) (chunk_lt _) = c := by
    conv_rhs => rw [← ringDev_pos c]
    congr 1
  rw [hd]; congr 1
  refine idx_ext ?_ ?_
  · rw [e1_0]; show _ = (e8 (slotB c (ownSlot s)) x 0).val % 1024; rw [h0]; omega
  · rw [e1_1]; show _ = (e8 (slotB c (ownSlot s)) x 1).val; rw [e8_1]

/-- What the stores write, element by element. -/
theorem k0_pay3_apply (v : Vec F S128x1024 .f32) (x : S128x1024.Idx) : k0_pay3 v x = FloatOps.truncf .bf16 bitsLt_bf16_f32 (v x) := by
  exact congrFun (shapeCast_self (truncf .bf16 v bitsLt_bf16_f32) shapeCasts_S128x1024_S128x1024) x
theorem k0_pay10_apply (v : Vec F S128x1024 .f32) (w : Vec F S128x1024 .bf16) (x : S128x1024.Idx) :
    k0_pay10 v w x = FloatOps.truncf .bf16 bitsLt_bf16_f32 (FloatOps.addf (v x) (FloatOps.extf .f32 bitsLt_bf16_f32 (w x))) := by
  exact congrFun (shapeCast_self (truncf .bf16 (addf v (extf .f32 w bitsLt_bf16_f32)) bitsLt_bf16_f32) shapeCasts_S128x1024_S128x1024) x

/-! ## Pieces of the buffers as blocks -/

section Pieces
variable {o : Fin 2 → ℕ} (h : IsBlk o) (b : Fin 64) (ho : o = ![128 * b.val, 0])
include ho
theorem xP_set : (xP h).view.set = B8 b := by subst ho; exact View.set_slice_whole _ _
theorem gP_set : (gP h).view.set = B8 b := by subst ho; exact View.set_slice_whole _ _
theorem oP_set : (oP h).view.set = B8 b := by subst ho; exact View.set_slice_whole _ _
theorem xP_read (f : S8192x1024.Idx → Elt F .f32) : (xP h).view.read (Elt F) f = fun x => f (e8 b x) := by subst ho; rfl
theorem gP_read (f : S8192x1024.Idx → Elt F .bf16) : (gP h).view.read (Elt F) f = fun x => f (e8 b x) := by subst ho; rfl
theorem gP_write (f g : S8192x1024.Idx → Elt F .bf16) (w : S128x1024.Idx → Elt F .bf16) (hw : ∀ x, w x = g (e8 b x)) :
    ∀ i ∈ B8 b, (gP h).view.write (Elt F) f w Finset.univ i = g i := by
  subst ho; intro i hi; rw [B8_eq_map, Finset.mem_map] at hi; obtain ⟨x, -, rfl⟩ := hi
  exact (View.write_emb_of_mem (v := (gP h).view) f w (Finset.mem_univ x)).trans (hw x)
theorem oP_write (f g : S8192x1024.Idx → Elt F .bf16) (w : S128x1024.Idx → Elt F .bf16) (hw : ∀ x, w x = g (e8 b x)) :
    ∀ i ∈ B8 b, (oP h).view.write (Elt F) f w Finset.univ i = g i := by
  subst ho; intro i hi; rw [B8_eq_map, Finset.mem_map] at hi; obtain ⟨x, -, rfl⟩ := hi
  exact (View.write_emb_of_mem (v := (oP h).view) f w (Finset.mem_univ x)).trans (hw x)
end Pieces

section Pieces1
variable (s : Fin 8)
theorem cP_set : (cP s).view.set = B1 s := View.set_slice_whole _ _
theorem pP_set : (pP s).view.set = B1 s := View.set_slice_whole _ _
theorem sP_set : (sP s).view.set = B1 s := View.set_slice_whole _ _
theorem cP_read (f : S1024x1024.Idx → Elt F .f32) : (cP s).view.read (Elt F) f = fun x => f (e1 s x) := rfl
theorem pP_read (f : S1024x1024.Idx → Elt F .bf16) : (pP s).view.read (Elt F) f = fun x => f (e1 s x) := rfl
theorem sP_read (f : S1024x1024.Idx → Elt F .bf16) : (sP s).view.read (Elt F) f = fun x => f (e1 s x) := rfl
theorem cP_write (f g : S1024x1024.Idx → Elt F .f32) (w : S128x1024.Idx → Elt F .f32) (hw : ∀ x, w x = g (e1 s x)) :
    ∀ i ∈ B1 s, (cP s).view.write (Elt F) f w Finset.univ i = g i := by
  intro i hi; rw [B1_eq_map, Finset.mem_map] at hi; obtain ⟨x, -, rfl⟩ := hi
  exact (View.write_emb_of_mem (v := (cP s).view) f w (Finset.mem_univ x)).trans (hw x)
theorem pP_write (f g : S1024x1024.Idx → Elt F .bf16) (w : S128x1024.Idx → Elt F .bf16) (hw : ∀ x, w x = g (e1 s x)) :
    ∀ i ∈ B1 s, (pP s).view.write (Elt F) f w Finset.univ i = g i := by
  intro i hi; rw [B1_eq_map, Finset.mem_map] at hi; obtain ⟨x, -, rfl⟩ := hi
  exact (View.write_emb_of_mem (v := (pP s).view) f w (Finset.mem_univ x)).trans (hw x)
theorem sP_write (f g : S1024x1024.Idx → Elt F .bf16) (w : S128x1024.Idx → Elt F .bf16) (hw : ∀ x, w x = g (e1 s x)) :
    ∀ i ∈ B1 s, (sP s).view.write (Elt F) f w Finset.univ i = g i := by
  intro i hi; rw [B1_eq_map, Finset.mem_map] at hi; obtain ⟨x, -, rfl⟩ := hi
  exact (View.write_emb_of_mem (v := (sP s).view) f w (Finset.mem_univ x)).trans (hw x)
end Pieces1

end Cert.KernelIdeal.Ring
end
-- ==== Proof.Ideal.Cells.lean ====
/-
# The protocol: cells, duties, contents handed over, debts, levels

Each semaphore of a device is a cell of one round. The barrier has three duties of one unit, one per neighbour that
signals it, each handing over the landing pieces its payer owns; the copies to the result share one semaphore, one
duty per slot; every other semaphore completes one transfer and has one duty. A device owes its neighbours the three
barrier units, then the pieces it sends, in program order; a cell's level grows along the hops.
-/
module

public import proofs.«01_k».proof.Proof.Ideal.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

/-- The kernel's own semaphores: the copies to the result; per piece of the chunk its load, its departure across `y` and
    its arrival from there; per ring transfer its departure and its arrival. -/
abbrev OwnRole : Type := Unit ⊕ Fin 8 ⊕ Fin 8 ⊕ Fin 8 ⊕ Fin 56 ⊕ Fin 56
/-- With the barrier. -/
abbrev Role : Type := Unit ⊕ OwnRole
instance : DecidableEq OwnRole := instDecidableEqSum
instance : DecidableEq Role := instDecidableEqSum

@[match_pattern] abbrev bar : Role := .inl ()
@[match_pattern] abbrev out : Role := .inr (.inl ())
@[match_pattern] abbrev load (s : Fin 8) : Role := .inr (.inr (.inl s))
@[match_pattern] abbrev ysend (s : Fin 8) : Role := .inr (.inr (.inr (.inl s)))
@[match_pattern] abbrev yrecv (s : Fin 8) : Role := .inr (.inr (.inr (.inr (.inl s))))
@[match_pattern] abbrev rsend (t : Fin 56) : Role := .inr (.inr (.inr (.inr (.inr (.inl t)))))
@[match_pattern] abbrev rrecv (t : Fin 56) : Role := .inr (.inr (.inr (.inr (.inr (.inr t)))))

def osem : OwnRole → SemLoc sig
  | .inl _ => .dma outSem
  | .inr (.inl s) => .dma (loadSem s)
  | .inr (.inr (.inl s)) => .dma (ySend s)
  | .inr (.inr (.inr (.inl s))) => .dma (yRecv s)
  | .inr (.inr (.inr (.inr (.inl t)))) => .dma (rSend t)
  | .inr (.inr (.inr (.inr (.inr t)))) => .dma (rRecv t)
def semAt : Role → SemLoc sig := Sum.elim (fun _ => .reg barS) osem

set_option maxRecDepth 8000 in
theorem osem_scoped : ∀ r, (osem r).isScoped .tc = true := by decide +kernel
set_option maxRecDepth 8000 in
theorem osem_injective : Function.Injective osem := by decide +kernel
theorem ownSemFacts : Pipeline.OwnSemFacts cfg0.spec osem := ⟨osem_scoped, osem_injective, fun _ w => w.elim0⟩

theorem semAt_injective : Function.Injective semAt := by
  have hne : ∀ r : OwnRole, (SemLoc.reg barS : SemLoc sig) ≠ osem r := by
    intro r h; match r with
    | .inl _ => cases h
    | .inr (.inl s) => cases h
    | .inr (.inr (.inl s)) => cases h
    | .inr (.inr (.inr (.inl s))) => cases h
    | .inr (.inr (.inr (.inr (.inl t)))) => cases h
    | .inr (.inr (.inr (.inr (.inr t)))) => cases h
  rintro (⟨⟩ | a) (⟨⟩ | b) h
  · rfl
  · exact absurd h (hne b)
  · exact absurd h.symm (hne a)
  · exact congrArg _ (osem_injective h)

/-- The role of a semaphore. -/
def roleOf (sm : SemLoc sig) : Option Role := open Classical in if h : ∃ r, semAt r = sm then some h.choose else none
theorem roleOf_semAt (r : Role) : roleOf (semAt r) = some r := by
  have h : ∃ r', semAt r' = semAt r := ⟨r, rfl⟩
  unfold roleOf; rw [dif_pos h]; exact congrArg some (semAt_injective h.choose_spec)

/-- A device's cell. -/
abbrev cell (c : Dev nD) (r : Role) : GSem nD τ sig := ((c : Thread nD τ), semAt r)
abbrev kcell (ck : Dev nD × Role) : GSem nD τ sig := cell ck.1 ck.2
theorem kcell_injective : Function.Injective kcell := by
  rintro ⟨c, k⟩ ⟨c', k'⟩ h
  have h1 : c = c' := congrArg (fun g : GSem nD τ sig => g.1.1) h
  have h2 : k = k' := semAt_injective (congrArg Prod.snd h)
  rw [h1, h2]

/-! ## The resource algebra -/

abbrev UB : Type := URounds (GSem nD τ sig) (Fin 64)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces held -/

def ptsX (c : Dev nD) (b : Fin 64) : sProp 𝕄 := ((c : Thread nD τ).loc main_arg0) ↦[B8 b]{fullShare} xIn m c
def ptsO (c : Dev nD) (b : Fin 64) (f : S8192x1024.Idx → Elt F .bf16) : sProp 𝕄 := ((c : Thread nD τ).loc main_v1) ↦[B8 b]{fullShare} f
def ptsG (c : Dev nD) (b : Fin 64) (q : PosShare TreeShare) (f : S8192x1024.Idx → Elt F .bf16) : sProp 𝕄 := ((c : Thread nD τ).loc cc0_scratch0) ↦[B8 b]{q} f
def ptsC (c : Dev nD) (s : Fin 8) (f : S1024x1024.Idx → Elt F .f32) : sProp 𝕄 := ((c : Thread nD τ).loc cc0_scratch1) ↦[B1 s]{fullShare} f
def ptsP (c : Dev nD) (s : Fin 8) (f : S1024x1024.Idx → Elt F .bf16) : sProp 𝕄 := ((c : Thread nD τ).loc cc0_scratch2) ↦[B1 s]{fullShare} f
def ptsS (c : Dev nD) (s : Fin 8) (f : S1024x1024.Idx → Elt F .bf16) : sProp 𝕄 := ((c : Thread nD τ).loc cc0_scratch3) ↦[B1 s]{fullShare} f

/-- The piece of the receiver transfer `t` of device `c` lands in, with any contents; the piece of the device across `y`. -/
def landing (c : Dev nD) (t : Fin 56) : sProp 𝕄 :=
  iprop(∃ f, ptsG (F := F) (toDev c (dirOf t.val)) (slotB (toDev c (dirOf t.val)) (landSlot t)) fullShare f)
def yLanding (c : Dev nD) (s : Fin 8) : sProp 𝕄 := iprop(∃ f, ptsP (F := F) (yDev c) s f)

/-- The share of its source a ring transfer holds while it flies: a quarter of an own piece, half of another. -/
def rq (t : Fin 56) : PosShare TreeShare :=
  if t.val < 16 then (if t.val % 2 = 0 then fullShare.left.left else fullShare.left.right) else fullShare.left

/-! ## The schedule -/

def dutySet : Role → Finset (Fin 64)
  | .inl _ => {0, 1, 2}
  | .inr (.inl _) => Finset.univ
  | .inr (.inr _) => {0}

/-- The credit of a piece of the chunk in full precision, of a narrowed piece. -/
def NL : ℕ := (cP 0).view.dmaCredit
def NB : ℕ := (sP 0).view.dmaCredit
theorem NL_pos : 0 < NL := View.dmaCredit_pos _ (by decide)
theorem NB_pos : 0 < NB := View.dmaCredit_pos _ (by decide)

def amt : Role → ℕ
  | .inl _ => 1
  | .inr (.inr (.inl _)) => NL
  | _ => NB
theorem amt_pos : ∀ r, 0 < amt r
  | .inl _ => Nat.one_pos
  | .inr (.inl _) => NB_pos
  | .inr (.inr (.inl _)) => NL_pos
  | .inr (.inr (.inr _)) => NB_pos

/-- What a duty of a device's cell hands over. -/
def pay (c : Dev nD) : Role → Fin 64 → sProp 𝕄
  | .inl _, d =>
    if d = 0 then bigSep Finset.univ (yLanding c)
    else if d = 1 then bigSep (Finset.univ.filter fun t : Fin 56 => dirOf t.val = true) (landing c)
    else bigSep (Finset.univ.filter fun t : Fin 56 => ¬ dirOf t.val = true) (landing c)
  | .inr (.inl _), n => iprop(ptsO c (slotB c n) (G m c) ∗ ptsG c (slotB c n) fullShare.right (G m c))
  | .inr (.inr (.inl s)), _ => iprop(ptsC c s (XC m c) ∗ ptsX m c (slotB c (ownSlot s)))
  | .inr (.inr (.inr (.inl s))), _ => ptsS c s (SB m c)
  | .inr (.inr (.inr (.inr (.inl s)))), _ => ptsP c s (PC m c)
  | .inr (.inr (.inr (.inr (.inr (.inl t))))), _ => ptsG c (ringB c t) (rq t) (G m c)
  | .inr (.inr (.inr (.inr (.inr (.inr t))))), _ => ptsG c (slotB c (landSlot t)) fullShare (G m c)

instance pay_storable (c : Dev nD) (r : Role) (d : Fin 64) : BI.Storable (upEmb : UEmb _ 𝕄) (pay m c r d) := by
  unfold pay landing yLanding ptsO ptsG ptsX ptsC ptsP ptsS
  split <;> (repeat' split) <;> infer_instance

/-- One round, round 0. -/
def ringRd : Rounds.Schedule (GSem nD τ sig) (Fin 64) 𝕄 where
  duties g r := if r = 0 ∧ g.1.2 = .tc then (match roleOf g.2 with | some k => dutySet k | none => ∅) else ∅
  unitless _ := False
  amount g _ _ := match roleOf g.2 with | some k => amt k | none => 1
  payload g _ d := match roleOf g.2 with | some k => pay m g.1.1 k d | none => iprop(emp)
  amount_pos g _ _ _ := by
    split
    · exact amt_pos _
    · exact Nat.one_pos

instance ringRd_payload_storable (g : GSem nD τ sig) (r : ℕ) (d : Fin 64) :
    BI.Storable (upEmb : UEmb _ 𝕄) ((ringRd (F := F) m).payload g r d) := by
  show BI.Storable upEmb (match roleOf g.2 with | some k => pay m g.1.1 k d | none => iprop(emp))
  split <;> infer_instance

section Sched
variable (c : Dev nD) (r : Role)

theorem duties_cell : (ringRd (F := F) m).duties (cell c r) 0 = dutySet r := by
  dsimp only [ringRd]; rw [if_pos ⟨rfl, rfl⟩, roleOf_semAt]
theorem duties_later (g : GSem nD τ sig) : ∀ k, 1 ≤ k → (ringRd (F := F) m).duties g k = ∅ :=
  fun k hk => by dsimp only [ringRd]; rw [if_neg fun h => by omega]
theorem amount_cell (d : Fin 64) : (ringRd (F := F) m).amount (cell c r) 0 d = amt r := by
  dsimp only [ringRd]; rw [roleOf_semAt]
theorem payload_cell (d : Fin 64) : (ringRd (F := F) m).payload (cell c r) 0 d = pay m c r d := by
  dsimp only [ringRd]; rw [roleOf_semAt]
theorem expect_cell : (ringRd (F := F) m).expect (cell c r) 0 = (dutySet r).card * amt r := by
  unfold Schedule.expect Schedule.amountOf
  rw [duties_cell, Finset.sum_congr rfl fun d _ => amount_cell m c r d, Finset.sum_const, smul_eq_mul]
end Sched

/-! ## Debts and levels -/

/-- What a device owes other devices: the three barrier units, the pieces across `y`, the ring's pieces. -/
abbrev Debt : Type := Fin 3 ⊕ Fin 8 ⊕ Fin 56
/-- Debts in the order they are paid. -/
def rank : Debt → ℕ
  | .inl i => i.val
  | .inr (.inl s) => 3 + s.val
  | .inr (.inr t) => 11 + t.val
theorem rank_injective : Function.Injective rank := by
  rintro (a | a | a) (b | b | b) h <;> simp only [rank] at h <;> first | omega | (congr; omega)

def debtRole : Debt → Role
  | .inl _ => bar
  | .inr (.inl s) => yrecv s
  | .inr (.inr t) => rrecv t
/-- Whom device `c` owes it. -/
def debtTo : Debt → (Dev nD ≃ Dev nD)
  | .inl i => if i = 0 then yEquiv else toEquiv (decide (i = 2))
  | .inr (.inl _) => yEquiv
  | .inr (.inr t) => toEquiv (dirOf t.val)

def debt (c : Dev nD) (d : Debt) : CellTallies nD τ sig Unit := tallyAt (cell (debtTo d c) (debtRole d)) () (amt (debtRole d))
/-- What device `c` owes once the first `k` debts are paid. -/
def owed (c : Dev nD) (k : ℕ) : CellTallies nD τ sig Unit := ∑ d ∈ Finset.univ.filter (fun d : Debt => k ≤ rank d), debt c d

theorem owed_pay (c : Dev nD) (d : Debt) : owed c (rank d) = owed c (rank d + 1) + debt c d := by
  unfold owed
  rw [show (Finset.univ.filter fun e : Debt => rank d ≤ rank e) = insert d (Finset.univ.filter fun e : Debt => rank d + 1 ≤ rank e) from by
    ext e; simp only [Finset.mem_filter, Finset.mem_univ, true_and, Finset.mem_insert]
    constructor
    · intro h; rcases Nat.eq_or_lt_of_le h with h | h
      · exact .inl (rank_injective h.symm)
      · exact .inr h
    · rintro (rfl | h) <;> omega,
    Finset.sum_insert (by simp), add_comm]
theorem owed_end (c : Dev nD) : owed c 67 = 0 := by
  unfold owed; rw [Finset.filter_false_of_mem (by rintro (a | a | a) _ <;> simp only [rank] <;> omega)]; rfl

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A cell's level: what is sent across `y` above what a device brings about itself, the hops above that in order. -/
def lvR : Role → ℕ
  | .inr (.inr (.inr (.inr (.inl _)))) => 1
  | .inr (.inr (.inr (.inr (.inr (.inr t))))) => 2 + hopOf t.val
  | _ => 0
def lv (g : GSem nD τ sig) (_ : Unit) : ℕ := match roleOf g.2 with | some r => lvR r | none => 0
theorem lv_cell (c : Dev nD) (r : Role) : lv (cell c r) () = lvR r := by unfold lv; dsimp only; rw [roleOf_semAt]

theorem owed_cases {c : Dev nD} {k : ℕ} {g : GSem nD τ sig} {u : Unit} (h : 0 < owed c k g u) :
    ∃ d : Debt, k ≤ rank d ∧ g = cell (debtTo d c) (debtRole d) := by
  unfold owed at h
  rw [Finset.sum_apply, Finsupp.finset_sum_apply] at h
  obtain ⟨d, hd, hne⟩ := Finset.exists_ne_zero_of_sum_ne_zero h.ne'
  refine ⟨d, (Finset.mem_filter.mp hd).2, ?_⟩
  by_contra hn
  exact hne (by unfold debt; rw [tallyAt_apply, if_neg fun h' => hn h'.1])

/-- A device may wait at a cell of its own below all it still owes. -/
theorem mayWait (c : Dev nD) (r : Role) (k : ℕ) (hk : ∀ d : Debt, k ≤ rank d → lvR r < lvR (debtRole d)) :
    (levAts L lv : sProp 𝕄) ⊢ MayWait (c : Thread nD τ) (semAt r) () (owed c k) :=
  MayOwe.of_cut (L := L) (lev := lv) (lvR r) (fun p hp => by rw [Finset.mem_singleton.mp hp, L_tc]; exact Finset.mem_singleton_self _)
    (fun g u hg => by obtain ⟨d, -, rfl⟩ := owed_cases hg; rw [L_tc]; exact Finset.mem_singleton_self _)
    (fun p hp => by rw [Finset.mem_singleton.mp hp]; exact (lv_cell c r).le)
    (fun g u hg => by obtain ⟨d, hd, rfl⟩ := owed_cases hg; rw [show u = () from rfl, lv_cell]; exact hk d hd)

end Cert.KernelIdeal.Ring
end
-- ==== Proof.Ideal.Rules.lean ====
/-
# Rules for the plan: a loop of steps, a wait for a whole cell, the two kinds of transfer

The rules of the rounds library at this protocol's cells, with what never changes — the cells' invariants, that round 0
is reached everywhere, the levels — kept apart as `Sh`, and the account of debts as `J`.
-/
module

public import proofs.«01_k».proof.Proof.Ideal.Cells

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a step on device `c`. -/
abbrev run (c : Dev nD) (p : Step F) (Q : PUnit.{1} → sProp 𝕄) : sProp 𝕄 :=
  wp frame (wpE (defs₀ (F := F)) 𝒱₀ (c : Thread nD τ) none) Set.univ p Q

/-- The cells' invariants under their names and that each cell is at round 0. -/
def records (K : Dev nD × Role → ℕ) : sProp 𝕄 :=
  iprop((bigSep Finset.univ fun ck : Dev nD × Role => cellInv ER (ringRd m) (K ck) (kcell ck))
    ∗ bigSep Finset.univ fun ck : Dev nD × Role => reached ER (kcell ck) 0)
instance records_persistent (K : Dev nD × Role → ℕ) : BI.Persistent (records m K) := by unfold records; infer_instance

/-- The levels of all cells. -/
def levels0 : sProp 𝕄 := levAts L lv
instance levels0_persistent : BI.Persistent (levels0 : sProp 𝕄) := by unfold levels0; infer_instance
/-- With the levels. -/
def Sh (K : Dev nD × Role → ℕ) : sProp 𝕄 := iprop(records m K ∗ levels0)
instance Sh_persistent (K : Dev nD × Role → ℕ) : BI.Persistent (Sh m K) := by unfold Sh; infer_instance

theorem inv_at (K : Dev nD × Role → ℕ) (ck : Dev nD × Role) :
    (bigSep Finset.univ fun ck : Dev nD × Role => (cellInv ER (ringRd m) (K ck) (kcell ck) : sProp 𝕄)) ⊢ cellInv ER (ringRd m) (K ck) (kcell ck) :=
  bigSep_elim (Finset.mem_univ ck)
theorem reached_at (ck : Dev nD × Role) :
    (bigSep Finset.univ fun ck : Dev nD × Role => (reached ER (kcell ck) 0 : sProp 𝕄)) ⊢ reached ER (kcell ck) 0 :=
  bigSep_elim (Finset.mem_univ ck)
theorem Sh_inv (K : Dev nD × Role → ℕ) (c : Dev nD) (r : Role) : Sh m K ⊢ cellInv ER (ringRd m) (K (c, r)) (cell c r) := by
  unfold Sh records; iintro ⟨⟨H, -⟩, -⟩; iapply (inv_at m K (c, r)); iexact H
theorem Sh_reached (K : Dev nD × Role → ℕ) (c : Dev nD) (r : Role) : Sh m K ⊢ reached ER (cell c r) 0 := by
  unfold Sh records; iintro ⟨⟨-, H⟩, -⟩; iapply (reached_at (F := F) (c, r)); iexact H
theorem Sh_wait (K : Dev nD × Role → ℕ) (c : Dev nD) (r : Role) (k : ℕ) (hk : ∀ d : Debt, k ≤ rank d → lvR r < lvR (debtRole d)) :
    Sh m K ⊢ MayWait (c : Thread nD τ) (semAt r) () (owed c k) := by
  have h1 : Sh m K ⊢ levels0 := sep_elim_right (P := records m K) (Q := levels0)
  have h2 : levels0 ⊢ MayWait (c : Thread nD τ) (semAt r) () (owed c k) := mayWait (F := F) c r k hk
  exact h1.trans h2

/-- The account of device `c`'s debts, `k` of them paid. -/
def J (c : Dev nD) (k : ℕ) : sProp 𝕄 := iprop(∃ W, owes (c : Thread nD τ) (owed c k) W)

abbrev credAt (c : Dev nD) (r : Role) : sProp 𝕄 := cred (tallyAt (cell c r) () (amt r))
abbrev tok (c : Dev nD) (r : Role) (d : Fin 64) : sProp 𝕄 := dutyTok ER (cell c r) 0 d
abbrev pos0 (c : Dev nD) (r : Role) : sProp 𝕄 := atPos ER (cell c r) 0 ∅ 0
abbrev closed (c : Dev nD) (r : Role) : sProp 𝕄 := semVal (cell c r) 0

section Loop

theorem bigSep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

/-- A loop of steps: each from what it needs to what it leaves, an account carried along. -/
theorem run_steps {c : Dev nD} {R : sProp 𝕄} [BI.Persistent R] {Q : PUnit.{1} → sProp 𝕄} (n : ℕ) (f : Fin n → Step F) (I : ℕ → sProp 𝕄)
    (Pre Post : Fin n → sProp 𝕄)
    (h : ∀ (i : Fin n) (k : Step F), iprop(R ∗ I i.val ∗ Pre i ∗ ((I (i.val + 1) ∗ Post i) -∗ run c k Q)) ⊢ run c ((f i).bind fun _ => k) Q) (k : Step F) :
    iprop(R ∗ I 0 ∗ bigSep Finset.univ Pre ∗ ((I n ∗ bigSep Finset.univ Post) -∗ run c k Q)) ⊢ run c (steps n f k) Q := by
  induction n generalizing I with
  | zero =>
    show _ ⊢ run c k Q
    iintro ⟨-, HI, -, Hk⟩
    iapply Hk
    isplitl [HI]; · iexact HI
    rw [Finset.univ_eq_empty, bigSep_empty]; iempintro
  | succ n ih =>
    rw [bigSep_succ, bigSep_succ]
    show _ ⊢ run c ((f 0).bind fun _ => steps n (fun i => f i.succ) k) Q
    iintro ⟨#HR, HI, ⟨H0, Hs⟩, Hk⟩
    iapply (show iprop(R ∗ I 0 ∗ Pre 0 ∗ ((I (0 + 1) ∗ Post 0) -∗ run c (steps n (fun i => f i.succ) k) Q)) ⊢ _ from h 0 _)
    isplitr; · iexact HR
    isplitl [HI]; · iexact HI
    isplitl [H0]; · iexact H0
    iintro ⟨HI, H0⟩
    iapply (ih (fun i => f i.succ) (fun i => I (i + 1)) (fun i => Pre i.succ) (fun i => Post i.succ) (fun i k => h i.succ k))
    isplitr; · iexact HR
    isplitl [HI]; · iexact HI
    isplitl [Hs]; · iexact Hs
    iintro ⟨HI, Hs⟩
    iapply Hk
    isplitl [HI]; · iexact HI
    isplitl [H0] <;> iassumption

end Loop

section Rules
variable (K : Dev nD × Role → ℕ) (c : Dev nD)

/-- The wait that takes what is left of a cell: the rest of what was handed over, and the semaphore back at zero. -/
theorem run_rest (r : Role) (k : ℕ) (hk : ∀ d : Debt, k ≤ rank d → lvR r < lvR (debtRole d)) {n k' : ℕ} (T : Finset (Fin 64))
    (hn : n + k' = (dutySet r).card * amt r) {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (semAt r) k' X)
    (p : PUnit.{1} → Step F) {Q : PUnit.{1} → sProp 𝕄} :
    iprop(Sh m K ∗ J c k ∗ cred (tallyAt (cell c r) () k') ∗ atPos ER (cell c r) 0 T n
        ∗ ((J c k ∗ closed c r ∗ bigSep (dutySet r \ T) (pay m c r)) -∗ run c (p ⟨⟩) Q)) ⊢ run c (.op w p) Q := by
  unfold J
  iintro ⟨#HS, ⟨%W, HO⟩, Hc, Ha, Hk⟩
  ihave #HI := (Sh_inv m K c r) $$ HS
  iapply (Rounds.wp_wait_rest_token 𝒱₀ ER (ringRd m) (c : Thread nD τ) none (κ := K (c, r)) hw (Set.mem_univ _) () (O := owed c k) (W := W)
    (R := 0) (m := n) (T := T) (hn.trans (expect_cell m c r).symm)) $$ [HO Hc Ha]
  · isplitr; · iexact HI
    isplitl [Hc]; · iexact Hc
    isplitl [HO]; · iexact HO
    isplitr; · iapply (Sh_wait m K c r k hk); iexact HS
    iexact Ha
  iintro ⟨HO, Ha, -, Hp⟩
  imod (Rounds.cell_close ER (ringRd m) (Set.mem_univ (K (c, r))) (fun h => h) (R := 0 + 1) (duties_later m (cell c r))) $$ [Ha] with Hz
  · isplitr; · iexact HI
    iexact Ha
  iapply Hk
  isplitl [HO]; · iexists _; iexact HO
  isplitl [Hz]; · iexact Hz
  ihave Hp := (Entails.of_eq (show bigSep ((ringRd (F := F) m).duties (cell c r) 0 \ T) (fun d => (ringRd (F := F) m).payload (cell c r) 0 d) = bigSep (dutySet r \ T) (pay m c r) by
    rw [duties_cell]; exact bigSep_congr fun d _ => payload_cell m c r d)) $$ Hp
  iexact Hp

/-- A wait that leaves something: some duties' contents, the position further on. -/
theorem run_some (r : Role) (k : ℕ) (hk : ∀ d : Debt, k ≤ rank d → lvR r < lvR (debtRole d)) (n : ℕ) (T : Finset (Fin 64))
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (semAt r) (amt r) X)
    (p : PUnit.{1} → Step F) {Q : PUnit.{1} → sProp 𝕄} :
    iprop(Sh m K ∗ J c k ∗ credAt c r ∗ atPos ER (cell c r) 0 T n
        ∗ (∀ S : Finset (Fin 64), (⌜T ⊆ S ∧ S ⊆ dutySet r⌝ ∗ J c k ∗ atPos ER (cell c r) 0 S (n + amt r) ∗ bigSep (S \ T) (pay m c r)) -∗ run c (p ⟨⟩) Q))
      ⊢ run c (.op w p) Q := by
  unfold J
  iintro ⟨#HS, ⟨%W, HO⟩, Hc, Ha, Hk⟩
  ihave #HI := (Sh_inv m K c r) $$ HS
  iapply (Rounds.wp_wait 𝒱₀ ER (ringRd m) (c : Thread nD τ) none (κ := K (c, r)) hw (Set.mem_univ _) (O := owed c k) (W := W)
    {(semAt r, ())} (cr := Finsupp.single () (amt r)) (R := 0) (m := n) (T := T) (Util.total_single ..) (image_single_subset _ _ _)) $$ [HO Hc Ha]
  · isplitr; · iexact HI
    isplitl [Hc]; · iexact Hc
    isplitl [HO]; · iexact HO
    isplitr; · iapply (Sh_wait m K c r k hk); iexact HS
    iexact Ha
  iintro %S ⟨%hS, HO, Ha, Hp⟩
  rw [duties_cell] at hS
  iapply Hk
  isplitr; · ipureintro; exact ⟨hS.1, hS.2.1⟩
  isplitl [HO]; · iexists _; iexact HO
  isplitl [Ha]; · iexact Ha
  ihave Hp := (Entails.of_eq (show bigSep (S \ T) (fun d => (ringRd (F := F) m).payload (cell c r) 0 d) = bigSep (S \ T) (pay m c r) from
    bigSep_congr fun d _ => payload_cell m c r d)) $$ Hp
  iexact Hp

/-- The one wait at a cell of one duty. -/
theorem run_wait (r : Role) (hr : dutySet r = {0}) (k : ℕ) (hk : ∀ d : Debt, k ≤ rank d → lvR r < lvR (debtRole d))
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (semAt r) (amt r) X)
    (p : PUnit.{1} → Step F) {Q : PUnit.{1} → sProp 𝕄} :
    iprop(Sh m K ∗ J c k ∗ credAt c r ∗ pos0 c r ∗ ((J c k ∗ closed c r ∗ pay m c r 0) -∗ run c (p ⟨⟩) Q)) ⊢ run c (.op w p) Q := by
  have h := run_rest m K c r k hk ∅ (n := 0) (by rw [hr, Finset.card_singleton, Nat.one_mul, Nat.zero_add]) hw p (Q := Q)
  rwa [Finset.sdiff_empty, hr, bigSep_singleton] at h

/-- A unit signalled to another device's barrier: one debt paid, its contents handed over. -/
theorem run_signal (d : Debt) (i : Fin 64) (hr : debtRole d = bar) (hi : i ∈ dutySet bar) {n : ℤ} (hn : n = 1) (c' : Dev nD) (hc' : debtTo d c = c')
    (p : PUnit.{1} → Step F) {Q : PUnit.{1} → sProp 𝕄} :
    iprop(Sh m K ∗ J c (rank d) ∗ tok c' bar i ∗ pay m c' bar i ∗ (J c (rank d + 1) -∗ run c (p ⟨⟩) Q))
      ⊢ run c (.op (.semSignal (c' : Thread nD τ) barS n) p) Q := by
  subst hc'; subst hn
  unfold J
  iintro ⟨#HS, ⟨%W, HO⟩, Ht, Hp, Hk⟩
  ihave #HI := (Sh_inv m K (debtTo d c) bar) $$ HS
  ihave #HR := (Sh_reached m K (debtTo d c) bar) $$ HS
  iapply (Rounds.wp_signal 𝒱₀ ER (ringRd m) (c : Thread nD τ) none (dst := (debtTo d c : Thread nD τ)) (κ := K (debtTo d c, bar)) (r := 0)
    (d := i) (k' := 1) (by rw [show ((debtTo d c : Thread nD τ), SemLoc.reg barS) = cell (debtTo d c) bar from rfl, duties_cell]; exact hi) (amount_cell m (debtTo d c) bar i) () (O₀ := owed c (rank d)) (owed c (rank d + 1))
    (by rw [owed_pay, debt, hr]; rfl)) $$ [HO Ht Hp]
  · isplitr; · iexact HI
    isplitl [HO]; · iexact HO
    isplitl [Ht]; · iexact Ht
    isplitl [Hp]
    · iapply (show pay m (debtTo d c) bar i ⊢ (ringRd (F := F) m).payload ((debtTo d c : Thread nD τ), SemLoc.reg barS) 0 i from
        Entails.of_eq (payload_cell m (debtTo d c) bar i).symm)
      iexact Hp
    iexact HR
  iintro HO
  iapply Hk; iexists W; iexact HO

/-- A local copy completing at duty `d` of a cell. -/
theorem run_copy (r : Role) (d : Fin 64) (hd : d ∈ dutySet r) {sp sp' : Space} {s : Shape} {e : EltTy}
    {src : Memref sig .tc sp s e} {dst : Memref sig .tc sp' s e}
    {hsrc : src.view.WordExact} {hdst : dst.view.WordExact} {hsem : DmaTarget.Typed (nD := nD) (τ := τ) (p := .tc) sp (semAt r) (.here dst)}
    (q : PosShare TreeShare) (fs : Buf (Elt F) (src.view.loc (c : Thread nD τ))) (fd : Buf (Elt F) (dst.view.loc (c : Thread nD τ)))
    (hN : dst.view.amount (semAt r) = amt r)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ pay m c r d)
    (p : PUnit.{1} → Step F) {Q : PUnit.{1} → sProp 𝕄} :
    iprop(Sh m K ∗ (src.view.loc (c : Thread nD τ) ↦[src.view.set]{q} fs) ∗ (dst.view.loc (c : Thread nD τ) ↦[dst.view.set]{fullShare} fd) ∗ tok c r d
        ∗ (credAt c r -∗ run c (p ⟨⟩) Q)) ⊢ run c (.op (.enqueueDma src (.here dst) (semAt r) hsrc hdst hsem) p) Q := by
  iintro ⟨#HS, Hs, Hd, Ht, Hk⟩
  ihave #HI := (Sh_inv m K c r) $$ HS
  ihave #HR := (Sh_reached m K c r) $$ HS
  iapply (Rounds.wp_copy_pointsTo 𝒱₀ ER (ringRd m) (c : Thread nD τ) none (κ := K (c, r)) (r := 0) (d := d) (q := q) (fs := fs) (fd := fd)
    (by rw [duties_cell]; exact hd) () (amt r) hN (amount_cell m c r d) (by rw [payload_cell]; exact hpay)) $$ [Hs Hd Ht]
  · isplitr; · iexact HI
    isplitl [Hs]; · iexact Hs
    isplitl [Hd]; · iexact Hd
    isplitl [Ht]; · iexact Ht
    iexact HR
  iexact Hk

/-- A transfer to another device: it completes there at the cell of a debt, which is thereby paid, and here at a cell
    that returns its source. -/
theorem run_send (r : Role) (hr : dutySet r = {0}) (d : Debt) (c' : Dev nD) (hc' : debtTo d c = c') (hd : dutySet (debtRole d) = {0})
    {sp sp' : Space} {s : Shape} {e : EltTy} {src : Memref sig .tc sp s e} {dst : Memref sig .tc sp' s e}
    {hsc : dst.view.ref.isScScratch = false}
    {hsrc : src.view.WordExact} {hdst : dst.view.WordExact}
    {hsem : DmaTarget.Typed (nD := nD) (τ := τ) (p := .tc) sp (semAt (debtRole d)) (.remote (Dev.tc c') dst (semAt r) hsc)}
    (q : PosShare TreeShare) (fs : Buf (Elt F) (src.view.loc (c : Thread nD τ))) (fd : Buf (Elt F) (dst.view.loc (c' : Thread nD τ)))
    (hN : dst.view.amount (semAt (debtRole d)) = NB) (ha : amt r = NB) (ha' : amt (debtRole d) = NB)
    (hpay : (src.view.loc (c : Thread nD τ) ↦[src.view.set]{q} fs) ⊢ pay m c r 0)
    (hpay' : (dst.view.loc (c' : Thread nD τ) ↦[dst.view.set]{fullShare} (dst.view.write (Elt F) fd (src.view.read (Elt F) fs) Finset.univ)) ⊢ pay m c' (debtRole d) 0)
    (p : PUnit.{1} → Step F) {Q : PUnit.{1} → sProp 𝕄} :
    iprop(Sh m K ∗ J c (rank d) ∗ (src.view.loc (c : Thread nD τ) ↦[src.view.set]{q} fs) ∗ (dst.view.loc (c' : Thread nD τ) ↦[dst.view.set]{fullShare} fd)
        ∗ tok c r 0 ∗ tok c' (debtRole d) 0
        ∗ ((J c (rank d + 1) ∗ credAt c r) -∗ run c (p ⟨⟩) Q))
      ⊢ run c (.op (.enqueueDma src (.remote (Dev.tc c') dst (semAt r) hsc) (semAt (debtRole d)) hsrc hdst hsem) p) Q := by
  subst hc'
  unfold J
  iintro ⟨#HS, ⟨%W, HO⟩, Hs, Hd, Ht, Ht', Hk⟩
  ihave #HI := (Sh_inv m K c r) $$ HS
  ihave #HR := (Sh_reached m K c r) $$ HS
  ihave #HI' := (Sh_inv m K (debtTo d c) (debtRole d)) $$ HS
  ihave #HR' := (Sh_reached m K (debtTo d c) (debtRole d)) $$ HS
  iapply (Rounds.wp_send_pointsTo 𝒱₀ ER (ringRd m) (c : Thread nD τ) none (κ₁ := K (c, r)) (κ₂ := K (debtTo d c, debtRole d))
    (O₀ := owed c (rank d)) (r₁ := 0) (r₂ := 0) (d₁ := 0) (d₂ := 0) (q := q) (fs := fs) (fd := fd)
    (by rw [duties_cell, hr]; exact Finset.mem_singleton_self _) (by rw [duties_cell, hd]; exact Finset.mem_singleton_self _)
    () () NB hN ((amount_cell m c r 0).trans ha) ((amount_cell m (debtTo d c) (debtRole d) 0).trans ha') (owed c (rank d + 1))
    (by rw [owed_pay, debt, ha']) (W := W) (by rw [payload_cell]; exact hpay) (by rw [payload_cell]; exact hpay')) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [HO]; · iexists W; iexact HO
  rw [credAt, ha]; iexact Hc

end Rules

end Cert.KernelIdeal.Ring
end
-- ==== Proof.Ideal.Steps.lean ====
/-
# The steps of the plan, one lemma each

What a step needs and what it leaves, on any device: the loads of the chunk, the exchange across `y`, the sums and the
ring's hops, the copies to the result, and the waits that close what is left.
-/
module

public import proofs.«01_k».proof.Proof.Ideal.Rules

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Pieces as the program's memrefs hold them -/

section Pts
variable (c : Dev nD) {o : Fin 2 → ℕ} (h : IsBlk o) (b : Fin 64) (ho : o = ![128 * b.val, 0])
include ho
theorem xP_pts : (ptsX m c b : sProp 𝕄) = ((xP h).view.loc (c : Thread nD τ) ↦[(xP h).view.set]{fullShare} xIn m c) := by
  unfold ptsX; rw [xP_set h b ho]
theorem gP_pts (q : PosShare TreeShare) (f : S8192x1024.Idx → Elt F .bf16) :
    (ptsG c b q f : sProp 𝕄) = ((gP h).view.loc (c : Thread nD τ) ↦[(gP h).view.set]{q} f) := by
  unfold ptsG; rw [gP_set h b ho]
theorem oP_pts (f : S8192x1024.Idx → Elt F .bf16) :
    (ptsO c b f : sProp 𝕄) = ((oP h).view.loc (c : Thread nD τ) ↦[(oP h).view.set]{fullShare} f) := by
  unfold ptsO; rw [oP_set h b ho]
theorem gP_landed (f g : S8192x1024.Idx → Elt F .bf16) (w : S128x1024.Idx → Elt F .bf16) (hw : ∀ x, w x = g (e8 b x)) :
    ((gP h).view.loc (c : Thread nD τ) ↦[(gP h).view.set]{fullShare} (gP h).view.write (Elt F) f w Finset.univ) ⊢ (ptsG c b fullShare g : sProp 𝕄) := by
  rw [gP_set h b ho]; unfold ptsG; exact Entails.of_eq (pointsTo_congr (gP_write h b ho f g w hw))
theorem oP_landed (f g : S8192x1024.Idx → Elt F .bf16) (w : S128x1024.Idx → Elt F .bf16) (hw : ∀ x, w x = g (e8 b x)) :
    ((oP h).view.loc (c : Thread nD τ) ↦[(oP h).view.set]{fullShare} (oP h).view.write (Elt F) f w Finset.univ) ⊢ (ptsO c b g : sProp 𝕄) := by
  rw [oP_set h b ho]; unfold ptsO; exact Entails.of_eq (pointsTo_congr (oP_write h b ho f g w hw))
end Pts

section Pts1
variable (c : Dev nD) (s : Fin 8)
theorem cP_pts (f : S1024x1024.Idx → Elt F .f32) : (ptsC c s f : sProp 𝕄) = ((cP s).view.loc (c : Thread nD τ) ↦[(cP s).view.set]{fullShare} f) := by
  unfold ptsC; rw [cP_set]
theorem pP_pts (f : S1024x1024.Idx → Elt F .bf16) : (ptsP c s f : sProp 𝕄) = ((pP s).view.loc (c : Thread nD τ) ↦[(pP s).view.set]{fullShare} f) := by
  unfold ptsP; rw [pP_set]
theorem sP_pts (f : S1024x1024.Idx → Elt F .bf16) : (ptsS c s f : sProp 𝕄) = ((sP s).view.loc (c : Thread nD τ) ↦[(sP s).view.set]{fullShare} f) := by
  unfold ptsS; rw [sP_set]
theorem cP_landed (f g : S1024x1024.Idx → Elt F .f32) (w : S128x1024.Idx → Elt F .f32) (hw : ∀ x, w x = g (e1 s x)) :
    ((cP s).view.loc (c : Thread nD τ) ↦[(cP s).view.set]{fullShare} (cP s).view.write (Elt F) f w Finset.univ) ⊢ (ptsC c s g : sProp 𝕄) := by
  rw [cP_set]; unfold ptsC; exact Entails.of_eq (pointsTo_congr (cP_write s f g w hw))
theorem pP_landed (f g : S1024x1024.Idx → Elt F .bf16) (w : S128x1024.Idx → Elt F .bf16) (hw : ∀ x, w x = g (e1 s x)) :
    ((pP s).view.loc (c : Thread nD τ) ↦[(pP s).view.set]{fullShare} (pP s).view.write (Elt F) f w Finset.univ) ⊢ (ptsP c s g : sProp 𝕄) := by
  rw [pP_set]; unfold ptsP; exact Entails.of_eq (pointsTo_congr (pP_write s f g w hw))
theorem sP_landed (f g : S1024x1024.Idx → Elt F .bf16) (w : S128x1024.Idx → Elt F .bf16) (hw : ∀ x, w x = g (e1 s x)) :
    ((sP s).view.loc (c : Thread nD τ) ↦[(sP s).view.set]{fullShare} (sP s).view.write (Elt F) f w Finset.univ) ⊢ (ptsS c s g : sProp 𝕄) := by
  rw [sP_set]; unfold ptsS; exact Entails.of_eq (pointsTo_congr (sP_write s f g w hw))
end Pts1

/-- What is waited for and what arrives are one amount. -/
theorem amt_p (s : Fin 8) : (pP s).view.dmaCredit = NB := rfl
theorem amt_s (s : Fin 8) : (sP s).view.dmaCredit = NB := rfl
theorem amt_c (s : Fin 8) : (cP s).view.dmaCredit = NL := rfl
theorem amt_g {o : Fin 2 → ℕ} (h : IsBlk o) : (gP h).view.dmaCredit = NB := rfl
theorem amt_o {o : Fin 2 → ℕ} (h : IsBlk o) : (oP h).view.dmaCredit = NB := rfl

/-! ## Loads and stores of pieces -/

section Access
variable (c : Dev nD)

theorem run_loadC (s : Fin 8) (f : S1024x1024.Idx → Elt F .f32) {hl} (p : Vec F S128x1024 .f32 → Step F) {Q : PUnit.{1} → sProp 𝕄} :
    iprop(ptsC c s f ∗ (ptsC c s f -∗ run c (p fun x => f (e1 s x)) Q)) ⊢ run c (.op (.load cM (rect1 s).toLoadRect hl) p) Q := by
  unfold ptsC; iintro ⟨H, Hk⟩
  iapply (wp_load 𝒱₀ (c : Thread nD τ) none Set.univ (m := cM) (r := (rect1 s).toLoadRect) (S := B1 s) (f := f) (Finset.map_refl).le) $$ H
  iexact Hk
theorem run_loadP (s : Fin 8) (f : S1024x1024.Idx → Elt F .bf16) {hl} (p : Vec F S128x1024 .bf16 → Step F) {Q : PUnit.{1} → sProp 𝕄} :
    iprop(ptsP c s f ∗ (ptsP c s f -∗ run c (p fun x => f (e1 s x)) Q)) ⊢ run c (.op (.load pM (rect1 s).toLoadRect hl) p) Q := by
  unfold ptsP; iintro ⟨H, Hk⟩
  iapply (wp_load 𝒱₀ (c : Thread nD τ) none Set.univ (m := pM) (r := (rect1 s).toLoadRect) (S := B1 s) (f := f) (Finset.map_refl).le) $$ H
  iexact Hk
theorem run_loadS (s : Fin 8) (f : S1024x1024.Idx → Elt F .bf16) {hl} (p : Vec F S128x1024 .bf16 → Step F) {Q : PUnit.{1} → sProp 𝕄} :
    iprop(ptsS c s f ∗ (ptsS c s f -∗ run c (p fun x => f (e1 s x)) Q)) ⊢ run c (.op (.load sM (rect1 s).toLoadRect hl) p) Q := by
  unfold ptsS; iintro ⟨H, Hk⟩
  iapply (wp_load 𝒱₀ (c : Thread nD τ) none Set.univ (m := sM) (r := (rect1 s).toLoadRect) (S := B1 s) (f := f) (Finset.map_refl).le) $$ H
  iexact Hk
theorem run_loadG {o : Fin 2 → ℕ} (h : IsBlk o) (b : Fin 64) (ho : o = ![128 * b.val, 0]) (f : S8192x1024.Idx → Elt F .bf16) {hl}
    (p : Vec F S128x1024 .bf16 → Step F) {Q : PUnit.{1} → sProp 𝕄} :
    iprop(ptsG c b fullShare f ∗ (ptsG c b fullShare f -∗ run c (p fun x => f (e8 b x)) Q)) ⊢ run c (.op (.load gM (rect8 h).toLoadRect hl) p) Q := by
  subst ho; unfold ptsG; iintro ⟨H, Hk⟩
  iapply (wp_load 𝒱₀ (c : Thread nD τ) none Set.univ (m := gM) (r := (rect8 h).toLoadRect) (S := B8 b) (f := f) (Finset.map_refl).le) $$ H
  iexact Hk

theorem run_storeS (s : Fin 8) (f g : S1024x1024.Idx → Elt F .bf16) (w : Vec F S128x1024 .bf16) (hw : ∀ x, w x = g (e1 s x)) {hx hm}
    (p : PUnit.{1} → Step F) {Q : PUnit.{1} → sProp 𝕄} :
    iprop(ptsS c s f ∗ (ptsS c s g -∗ run c (p ⟨⟩) Q)) ⊢ run c (.op (.store sM (rect1 s) w Finset.univ hx hm) p) Q := by
  iintro ⟨H, Hk⟩
  ihave H := (Entails.of_eq (sP_pts c s f)) $$ H
  iapply (wp_store 𝒱₀ (c : Thread nD τ) none Set.univ (m := sM) (r := rect1 s) (Mk := Finset.univ) (S := (sP s).view.set) (f := f) (Finset.Subset.refl _)) $$ H
  iintro H
  iapply Hk
  iapply (sP_landed c s f g w hw); iexact H
theorem run_storeG {o : Fin 2 → ℕ} (h : IsBlk o) (b : Fin 64) (ho : o = ![128 * b.val, 0]) (f g : S8192x1024.Idx → Elt F .bf16)
    (w : Vec F S128x1024 .bf16) (hw : ∀ x, w x = g (e8 b x)) {hx hm} (p : PUnit.{1} → Step F) {Q : PUnit.{1} → sProp 𝕄} :
    iprop(ptsG c b fullShare f ∗ (ptsG c b fullShare g -∗ run c (p ⟨⟩) Q)) ⊢ run c (.op (.store gM (rect8 h) w Finset.univ hx hm) p) Q := by
  iintro ⟨H, Hk⟩
  ihave H := (Entails.of_eq (gP_pts c h b ho fullShare f)) $$ H
  iapply (wp_store 𝒱₀ (c : Thread nD τ) none Set.univ (m := gM) (r := rect8 h) (Mk := Finset.univ) (S := (gP h).view.set) (f := f) (Finset.Subset.refl _)) $$ H
  iintro H
  iapply Hk
  iapply (gP_landed c h b ho f g w hw); iexact H

end Access

/-! ## The steps -/

section Steps
variable (K : Dev nD × Role → ℕ) (c : Dev nD)

/-- Piece `s` of the chunk starts to be loaded. -/
def loadPre (s : Fin 8) : sProp 𝕄 := iprop(ptsX m c (slotB c (ownSlot s)) ∗ (∃ f, ptsC c s f) ∗ tok c (load s) 0)
def loadPost (s : Fin 8) : sProp 𝕄 := credAt c (load s)

theorem load_step (s : Fin 8) (k : Step F) {Q : PUnit.{1} → sProp 𝕄} :
    iprop(Sh m K ∗ J c 0 ∗ loadPre m c s ∗ ((J c 0 ∗ loadPost c s) -∗ run c k Q)) ⊢ run c ((loadStep c s).bind fun _ => k) Q := by
  unfold loadPre loadPost
  iintro ⟨#HS, HJ, ⟨Hx, ⟨%f, Hc⟩, Ht⟩, Hk⟩
  simp only [loadStep, Prog.lift, Prog.bind]
  ihave Hx := (Entails.of_eq (xP_pts m c (isBlk_load c s) _ (loadOff_at c s))) $$ Hx
  ihave Hc := (Entails.of_eq (cP_pts c s f)) $$ Hc
  iapply (run_copy m K c (load s) 0 (Finset.mem_singleton_self _) (src := xP (isBlk_load c s)) (dst := cP s) fullShare (xIn m c) f (amt_c s)
    (BI.sep_mono (cP_landed c s f (XC m c) _ fun x => by rw [xP_read _ _ (loadOff_at c s)]; exact xIn_piece m c s x)
      (Entails.of_eq (xP_pts m c (isBlk_load c s) _ (loadOff_at c s)).symm)))
  isplitr; · iexact HS
  isplitl [Hx]; · iexact Hx
  isplitl [Hc]; · iexact Hc
  isplitl [Ht]; · iexact Ht
  iintro Hc
  iapply Hk
  isplitl [HJ] <;> iassumption

/-- Piece `s` of the chunk has arrived and its narrowed copy leaves across `y`. -/
def crossPre (s : Fin 8) : sProp 𝕄 :=
  iprop(credAt c (load s) ∗ pos0 c (load s) ∗ (∃ f, ptsS c s f) ∗ tok c (ysend s) 0 ∗ tok (yDev c) (yrecv s) 0 ∗ yLanding c s)
def crossPost (s : Fin 8) : sProp 𝕄 :=
  iprop(closed c (load s) ∗ ptsX m c (slotB c (ownSlot s)) ∗ ptsC c s (XC m c) ∗ credAt c (ysend s))

theorem levels_cross : ∀ s : Fin 8, ∀ d : Debt, 3 + s.val ≤ rank d → lvR (load s) < lvR (debtRole d) := by decide +kernel

theorem cross_step (s : Fin 8) (k : Step F) {Q : PUnit.{1} → sProp 𝕄} :
    iprop(Sh m K ∗ J c (3 + s.val) ∗ crossPre c s ∗ ((J c (3 + (s.val + 1)) ∗ crossPost m c s) -∗ run c k Q)) ⊢ run c ((crossStep c s).bind fun _ => k) Q := by
  unfold crossPre crossPost yLanding
  iintro ⟨#HS, HJ, ⟨Hcr, Hp, ⟨%f, Hs⟩, Ht, Ht', ⟨%g, Hy⟩⟩, Hk⟩
  simp only [crossStep, Prog.lift, Prog.bind]
  iapply (run_wait m K c (load s) rfl (3 + s.val) (levels_cross s) (w := .waitDma2 (loadSem s) (xP (isBlk_load c s)) (cP s) _ _)
    (wpE_waitDma2_eq 𝒱₀ (c : Thread nD τ) none Set.univ))
  isplitr; · iexact HS
  isplitl [HJ]; · iexact HJ
  isplitl [Hcr]; · iexact Hcr
  isplitl [Hp]; · iexact Hp
  iintro ⟨HJ, Hz, Hpay⟩
  ihave Hpay := (Entails.of_eq (show pay m c (load s) 0 = iprop(ptsC c s (XC m c) ∗ ptsX m c (slotB c (ownSlot s))) from rfl)) $$ Hpay
  icases Hpay with ⟨Hc, Hx⟩
  iapply (run_loadC c s (XC m c)); isplitl [Hc]; · iexact Hc
  iintro Hc
  iapply (run_loadS c s f); isplitl [Hs]; · iexact Hs
  iintro Hs
  iapply (run_storeS c s f (SB m c) _ (fun x => k0_pay3_apply _ x)); isplitl [Hs]; · iexact Hs
  iintro Hs
  ihave Hs := (Entails.of_eq (sP_pts c s (SB m c))) $$ Hs
  ihave Hy := (Entails.of_eq (pP_pts (yDev c) s g)) $$ Hy
  iapply (run_send m K c (ysend s) rfl (.inr (.inl s)) (yDev c) rfl rfl (src := sP s) (dst := pP s) fullShare (SB m c) g (amt_p s) rfl rfl
    (Entails.of_eq (sP_pts c s (SB m c)).symm) (pP_landed (yDev c) s g (PC m (yDev c)) _ fun x => by unfold PC; rw [y_y]; exact congrFun (sP_read s (SB m c)) x))
  isplitr; · iexact HS
  isplitl [HJ]; · iexact HJ
  isplitl [Hs]; · iexact Hs
  isplitl [Hy]; · iexact Hy
  isplitl [Ht]; · iexact Ht
  isplitl [Ht']; · iexact Ht'
  iintro ⟨HJ, Hcr⟩
  iapply Hk
  isplitl [HJ]; · iexact HJ
  isplitl [Hz]; · iexact Hz
  isplitl [Hx]; · iexact Hx
  isplitl [Hc] <;> iassumption

/-! ### The barrier -/

theorem split_filter (p : Fin 56 → Prop) [DecidablePred p] (Φ : Fin 56 → sProp 𝕄) :
    bigSep Finset.univ Φ = iprop(bigSep (Finset.univ.filter p) Φ ∗ bigSep (Finset.univ.filter fun t => ¬ p t) Φ) := bigSep_filter_split Finset.univ p
theorem join_sdiff {T S : Finset (Fin 64)} (h : T ⊆ S) (Φ : Fin 64 → sProp 𝕄) : iprop(bigSep T Φ ∗ bigSep (S \ T) Φ) ⊢ bigSep S Φ :=
  Entails.of_eq (bigSep_sdiff_split h).symm

/-- A piece of the device's own gathered buffer a transfer will land in; a piece of its chunk from across `y`. -/
def ownLand (t : Fin 56) : sProp 𝕄 := iprop(∃ f, ptsG (F := F) c (slotB c (landSlot t)) fullShare f)
def ownY (s : Fin 8) : sProp 𝕄 := iprop(∃ f, ptsP (F := F) c s f)

theorem yLanding_y (s : Fin 8) : (yLanding (yDev c) s : sProp 𝕄) = ownY c s := by unfold yLanding ownY; rw [y_y]
theorem landing_of (c' : Dev nD) (t : Fin 56) (h : toDev c' (dirOf t.val) = c) : (landing c' t : sProp 𝕄) = ownLand c t := by
  unfold landing ownLand; rw [h]

def barPre : sProp 𝕄 :=
  iprop((bigSep Finset.univ (ownY c)) ∗ (bigSep Finset.univ (ownLand c)) ∗ tok (yDev c) bar 0 ∗ tok (upDev c) bar 1 ∗ tok (downDev c) bar 2
    ∗ cred (tallyAt (cell c bar) () 3) ∗ pos0 c bar)
def barPost : sProp 𝕄 := iprop(closed c bar ∗ bigSep Finset.univ (yLanding c) ∗ bigSep Finset.univ (landing c))

theorem levels_bar : ∀ d : Debt, 3 ≤ rank d → lvR bar < lvR (debtRole d) := by decide +kernel

theorem pay_bar0 : pay m c bar 0 = bigSep Finset.univ (yLanding c) := by unfold pay; exact if_pos rfl
theorem pay_bar1 : pay m c bar 1 = bigSep (Finset.univ.filter fun t : Fin 56 => dirOf t.val = true) (landing c) := by
  unfold pay; dsimp only; rw [if_neg (by decide), if_pos rfl]
theorem pay_bar2 : pay m c bar 2 = bigSep (Finset.univ.filter fun t : Fin 56 => ¬ dirOf t.val = true) (landing c) := by
  unfold pay; dsimp only; rw [if_neg (by decide), if_neg (by decide)]

theorem pay_y : bigSep Finset.univ (ownY c) ⊢ pay m (yDev c) bar 0 :=
  Entails.of_eq ((bigSep_congr fun s _ => (yLanding_y c s).symm).trans (pay_bar0 m (yDev c)).symm)
theorem pay_up : bigSep (Finset.univ.filter fun t : Fin 56 => dirOf t.val = true) (ownLand c) ⊢ pay m (upDev c) bar 1 := by
  refine Entails.of_eq (Eq.trans (bigSep_congr fun t ht => ?_) (pay_bar1 m (upDev c)).symm)
  exact (landing_of c (upDev c) t (by rw [(Finset.mem_filter.mp ht).2]; exact down_up c)).symm
theorem pay_down : bigSep (Finset.univ.filter fun t : Fin 56 => ¬ dirOf t.val = true) (ownLand c) ⊢ pay m (downDev c) bar 2 := by
  refine Entails.of_eq (Eq.trans (bigSep_congr fun t ht => ?_) (pay_bar2 m (downDev c)).symm)
  have h := (Finset.mem_filter.mp ht).2
  rw [Bool.not_eq_true] at h
  exact (landing_of c (downDev c) t (by rw [h]; exact up_down c)).symm
theorem pay_bar : bigSep (dutySet bar \ ∅) (pay m c bar) ⊢ iprop(bigSep Finset.univ (yLanding c) ∗ bigSep Finset.univ (landing c)) := by
  rw [Finset.sdiff_empty, show dutySet bar = insert (0 : Fin 64) (insert 1 {2}) from rfl, bigSep_insert (by decide), bigSep_insert (by decide), bigSep_singleton,
    bigSep_filter_split Finset.univ (fun t : Fin 56 => dirOf t.val = true) (Φ := landing c), pay_bar0, pay_bar1, pay_bar2]
  exact Entails.rfl

theorem bar_step (k : Step F) {Q : PUnit.{1} → sProp 𝕄} :
    iprop(Sh m K ∗ J c 0 ∗ barPre c ∗ ((J c 3 ∗ barPost c) -∗ run c k Q)) ⊢ run c ((barStep c).bind fun _ => k) Q := by
  unfold barPre barPost
  rw [split_filter (fun t : Fin 56 => dirOf t.val = true) (ownLand c)]
  iintro ⟨#HS, HJ, ⟨Hy, ⟨Hd, Hu⟩, Ht0, Ht1, Ht2, Hc, Ha⟩, Hk⟩
  simp only [barStep, semSignalWord, semWaitWord, Prog.bind]
  iapply (run_signal m K c (.inl 0) 0 rfl (by decide) (by decide) (yDev c) rfl)
  isplitr; · iexact HS
  isplitl [HJ]; · iexact HJ
  isplitl [Ht0]; · iexact Ht0
  isplitl [Hy]; · iapply (pay_y m c); iexact Hy
  iintro HJ
  iapply (run_signal m K c (.inl 1) 1 rfl (by decide) (by decide) (upDev c) rfl)
  isplitr; · iexact HS
  isplitl [HJ]; · iexact HJ
  isplitl [Ht1]; · iexact Ht1
  isplitl [Hd]; · iapply (pay_up m c); iexact Hd
  iintro HJ
  iapply (run_signal m K c (.inl 2) 2 rfl (by decide) (by decide) (downDev c) rfl)
  isplitr; · iexact HS
  isplitl [HJ]; · iexact HJ
  isplitl [Ht2]; · iexact Ht2
  isplitl [Hu]; · iapply (pay_down m c); iexact Hu
  iintro HJ
  iapply (run_rest m K c bar 3 levels_bar ∅ (n := 0) (k' := 3) rfl (w := .semWait barS _) (wpE_semWait_eq 𝒱₀ (c : Thread nD τ) none Set.univ))
  isplitr; · iexact HS
  isplitl [HJ]; · iexact HJ
  isplitl [Hc]; · iexact Hc
  isplitl [Ha]; · iexact Ha
  iintro ⟨HJ, Hz, Hp⟩
  iapply Hk
  isplitl [HJ]; · iexact HJ
  isplitl [Hz]; · iexact Hz
  iapply (pay_bar m c); iexact Hp

/-! ### Transfers of the ring and copies to the result -/

/-- What it takes to send ring transfer `t`, besides its source: the tokens of its two cells and the piece it lands in. -/
def fly (t : Fin 56) : sProp 𝕄 := iprop(tok c (rsend t) 0 ∗ tok (toDev c (dirOf t.val)) (rrecv t) 0 ∗ landing c t)
/-- What it takes to copy slot `n` to the result, besides its source. -/
def outTok (n : Fin 64) : sProp 𝕄 := iprop((∃ f, ptsO (F := F) c (slotB c n) f) ∗ tok c out n)

theorem pay_land (t : Fin 56) (f : S8192x1024.Idx → Elt F .bf16) :
    ((gP (isBlk_ring c t)).view.loc (toDev c (dirOf t.val) : Thread nD τ) ↦[(gP (isBlk_ring c t)).view.set]{fullShare}
        (gP (isBlk_ring c t)).view.write (Elt F) f ((gP (isBlk_ring c t)).view.read (Elt F) (G m c)) Finset.univ)
      ⊢ pay m (toDev c (dirOf t.val)) (rrecv t) 0 := by
  refine (gP_landed (toDev c (dirOf t.val)) (isBlk_ring c t) (ringB c t) (ringOff_at c t) f (G m (toDev c (dirOf t.val))) _ fun x => ?_).trans ?_
  · rw [G_to, gP_read (isBlk_ring c t) _ (ringOff_at c t)]
  · rw [← ringB_land]; exact Entails.rfl

theorem run_ring (t : Fin 56) (k : Step F) {Q : PUnit.{1} → sProp 𝕄} :
    iprop(Sh m K ∗ J c (11 + t.val) ∗ ptsG c (ringB c t) (rq t) (G m c) ∗ fly c t ∗ ((J c (11 + t.val + 1) ∗ credAt c (rsend t)) -∗ run c k Q))
      ⊢ run c ((ringSend c t).bind fun _ => k) Q := by
  unfold fly landing
  rw [ringB_land]
  iintro ⟨#HS, HJ, Hs, ⟨Ht, Ht', ⟨%f, Hd⟩⟩, Hk⟩
  ihave Hs := (Entails.of_eq (gP_pts c (isBlk_ring c t) _ (ringOff_at c t) (rq t) (G m c))) $$ Hs
  ihave Hd := (Entails.of_eq (gP_pts (toDev c (dirOf t.val)) (isBlk_ring c t) _ (ringOff_at c t) fullShare f)) $$ Hd
  simp only [ringSend, Prog.lift, Prog.bind]
  iapply (run_send m K c (rsend t) rfl (.inr (.inr t)) (toDev c (dirOf t.val)) rfl rfl (src := gP (isBlk_ring c t)) (dst := gP (isBlk_ring c t)) (rq t)
    (G m c) f (amt_g _) rfl rfl (Entails.of_eq (gP_pts c (isBlk_ring c t) _ (ringOff_at c t) (rq t) (G m c)).symm) (pay_land m c t f))
  isplitr; · iexact HS
  isplitl [HJ]; · iexact HJ
  isplitl [Hs]; · iexact Hs
  isplitl [Hd]; · iexact Hd
  isplitl [Ht]; · iexact Ht
  isplitl [Ht']; · iexact Ht'
  iexact Hk

theorem run_out (n : Fin 64) (k : Step F) {Q : PUnit.{1} → sProp 𝕄} :
    iprop(Sh m K ∗ ptsG c (slotB c n) fullShare.right (G m c) ∗ outTok c n ∗ (credAt c out -∗ run c k Q))
      ⊢ run c ((outStep c n).bind fun _ => k) Q := by
  unfold outTok
  iintro ⟨#HS, Hs, ⟨⟨%f, Hd⟩, Ht⟩, Hk⟩
  ihave Hs := (Entails.of_eq (gP_pts c (isBlk_slot c n) _ (slotOff_at c n) fullShare.right (G m c))) $$ Hs
  ihave Hd := (Entails.of_eq (oP_pts c (isBlk_slot c n) _ (slotOff_at c n) f)) $$ Hd
  simp only [outStep, Prog.lift, Prog.bind]
  iapply (run_copy m K c out n (Finset.mem_univ _) (src := gP (isBlk_slot c n)) (dst := oP (isBlk_slot c n)) fullShare.right (G m c) f (amt_o _)
    (BI.sep_mono (oP_landed c (isBlk_slot c n) _ (slotOff_at c n) f (G m c) _ fun x => by rw [gP_read (isBlk_slot c n) _ (slotOff_at c n)])
      (Entails.of_eq (gP_pts c (isBlk_slot c n) _ (slotOff_at c n) fullShare.right (G m c)).symm)))
  isplitr; · iexact HS
  isplitl [Hs]; · iexact Hs
  isplitl [Hd]; · iexact Hd
  isplitl [Ht]; · iexact Ht
  iexact Hk

theorem run_recv (t : Fin 56) (j : ℕ) (hj : ∀ d : Debt, j ≤ rank d → lvR (rrecv t) < lvR (debtRole d)) (k : Step F) {Q : PUnit.{1} → sProp 𝕄} :
    iprop(Sh m K ∗ J c j ∗ credAt c (rrecv t) ∗ pos0 c (rrecv t)
        ∗ ((J c j ∗ closed c (rrecv t) ∗ ptsG c (slotB c (landSlot t)) fullShare (G m c)) -∗ run c k Q))
      ⊢ run c ((recvStep c t).bind fun _ => k) Q := by
  simp only [recvStep, Prog.lift, Prog.bind]
  exact run_wait m K c (rrecv t) rfl j hj (w := .waitDma2 (rRecv t) (gP (isBlk_ring c t)) (gP (isBlk_ring c t)) _ _)
    (wpE_waitDma2_eq 𝒱₀ (c : Thread nD τ) none Set.univ) fun _ => k

theorem ptsG_halves (b : Fin 64) (q : PosShare TreeShare) (f : S8192x1024.Idx → Elt F .bf16) :
    (ptsG c b q f : sProp 𝕄) ⊣⊢ iprop(ptsG c b q.left f ∗ ptsG c b q.right f) := by
  unfold ptsG; exact pointsTo_share (PosShare.mem_left_op_right q)

/-! ### The sums -/

/-- Piece `s` from across `y` has arrived: the sum is stored, sent both ways and copied to the result. -/
def sumPre (s : Fin 8) : sProp 𝕄 :=
  iprop(credAt c (ysend s) ∗ pos0 c (ysend s) ∗ credAt c (yrecv s) ∗ pos0 c (yrecv s) ∗ ptsC c s (XC m c)
    ∗ (∃ f, ptsG c (slotB c (ownSlot s)) fullShare f) ∗ fly c (evenT s) ∗ fly c (oddT s) ∗ outTok c (ownSlot s))
def sumPost (s : Fin 8) : sProp 𝕄 :=
  iprop(closed c (ysend s) ∗ closed c (yrecv s) ∗ ptsC c s (XC m c) ∗ ptsS c s (SB m c) ∗ ptsP c s (PC m c)
    ∗ credAt c (rsend (evenT s)) ∗ credAt c (rsend (oddT s)) ∗ credAt c out)

theorem levels_sum : ∀ s : Fin 8, ∀ d : Debt, 11 + 2 * s.val ≤ rank d → lvR (ysend s) < lvR (debtRole d) ∧ lvR (yrecv s) < lvR (debtRole d) := by decide +kernel

theorem rq_even : ∀ s : Fin 8, rq (evenT s) = fullShare.left.left := by
  intro s; unfold rq; rw [if_pos (show (evenT s).val < 16 by show 2 * s.val < 16; omega), if_pos (show (evenT s).val % 2 = 0 by show 2 * s.val % 2 = 0; omega)]
theorem rq_odd : ∀ s : Fin 8, rq (oddT s) = fullShare.left.right := by
  intro s; unfold rq; rw [if_pos (show (oddT s).val < 16 by show 2 * s.val + 1 < 16; omega), if_neg (show ¬ (oddT s).val % 2 = 0 by show ¬ (2 * s.val + 1) % 2 = 0; omega)]
theorem rq_on : ∀ k : Fin 40, rq (onT k) = fullShare.left := by
  intro k; unfold rq; rw [if_neg (show ¬ (onT k).val < 16 by show ¬ 16 + k.val < 16; omega)]

theorem sumStep_bind (s : Fin 8) (k : Step F) : ((sumStep c s).bind fun _ => k) =
    .op (.waitDma2 (ySend s) (pP s) (sP s) ((Memref.isWhole_whole _).wordExact_slice rfl _ (words1_fin s)) ((Memref.isWhole_whole _).wordExact_slice rfl _ (words1_fin s))) fun _ =>
    .op (.waitDma2 (yRecv s) (sP s) (pP s) ((Memref.isWhole_whole _).wordExact_slice rfl _ (words1_fin s)) ((Memref.isWhole_whole _).wordExact_slice rfl _ (words1_fin s))) fun _ =>
    .op (.load cM (rect1 s).toLoadRect (View.loadsAt_vmem h_S128x1024)) fun v =>
    .op (.load pM (rect1 s).toLoadRect (View.loadsAt_vmem h_S128x1024)) fun w =>
    .op (.load gM (rect8 (isBlk_own c s)).toLoadRect (View.loadsAt_vmem h_S128x1024)) fun _ =>
    .op (.store gM (rect8 (isBlk_own c s)) (k0_pay10 v w) Finset.univ
      (View.stores_vmem h_S128x1024 ((Memref.isWhole_whole _).storeExact_slice rfl _ (isBlk_own c s).packed) (fun _ => rfl)) (.inl rfl)) fun _ =>
    (ringSend c (evenT s)).bind fun _ => (ringSend c (oddT s)).bind fun _ => (outStep c (ownSlot s)).bind fun _ => k := rfl

theorem sum_step (s : Fin 8) (k : Step F) {Q : PUnit.{1} → sProp 𝕄} :
    iprop(Sh m K ∗ J c (11 + 2 * s.val) ∗ sumPre m c s ∗ ((J c (11 + 2 * (s.val + 1)) ∗ sumPost m c s) -∗ run c k Q)) ⊢ run c ((sumStep c s).bind fun _ => k) Q := by
  unfold sumPre sumPost
  rw [sumStep_bind]
  iintro ⟨#HS, HJ, ⟨Hc1, Hp1, Hc2, Hp2, Hx, ⟨%f, Hg⟩, Hf, Hf', Ho⟩, Hk⟩
  iapply (run_wait m K c (ysend s) rfl (11 + 2 * s.val) (fun d hd => (levels_sum s d hd).1) (w := .waitDma2 (ySend s) (pP s) (sP s) _ _)
    (wpE_waitDma2_eq 𝒱₀ (c : Thread nD τ) none Set.univ))
  isplitr; · iexact HS
  isplitl [HJ]; · iexact HJ
  isplitl [Hc1]; · iexact Hc1
  isplitl [Hp1]; · iexact Hp1
  iintro ⟨HJ, Hz1, Hs⟩
  iapply (run_wait m K c (yrecv s) rfl (11 + 2 * s.val) (fun d hd => (levels_sum s d hd).2) (w := .waitDma2 (yRecv s) (sP s) (pP s) _ _)
    (wpE_waitDma2_eq 𝒱₀ (c : Thread nD τ) none Set.univ))
  isplitr; · iexact HS
  isplitl [HJ]; · iexact HJ
  isplitl [Hc2]; · iexact Hc2
  isplitl [Hp2]; · iexact Hp2
  iintro ⟨HJ, Hz2, Hy⟩
  ihave Hs := (Entails.of_eq (show pay m c (ysend s) 0 = ptsS c s (SB m c) from rfl)) $$ Hs
  ihave Hy := (Entails.of_eq (show pay m c (yrecv s) 0 = ptsP c s (PC m c) from rfl)) $$ Hy
  iapply (run_loadC c s (XC m c)); isplitl [Hx]; · iexact Hx
  iintro Hx
  iapply (run_loadP c s (PC m c)); isplitl [Hy]; · iexact Hy
  iintro Hy
  iapply (run_loadG c (isBlk_own c s) _ (ownOff_at c s) f); isplitl [Hg]; · iexact Hg
  iintro Hg
  iapply (run_storeG c (isBlk_own c s) _ (ownOff_at c s) f (G m c) _ (fun x => (k0_pay10_apply _ _ x).trans (own_piece m c s x))); isplitl [Hg]; · iexact Hg
  iintro Hg
  ihave Hg := (ptsG_halves c _ fullShare (G m c)).1 $$ Hg
  icases Hg with ⟨Hl, Hr⟩
  ihave Hl := (ptsG_halves c _ fullShare.left (G m c)).1 $$ Hl
  icases Hl with ⟨Hll, Hlr⟩
  iapply (run_ring m K c (evenT s))
  isplitr; · iexact HS
  isplitl [HJ]; · iexact HJ
  isplitl [Hll]; · rw [ringB_even, rq_even]; iexact Hll
  isplitl [Hf]; · iexact Hf
  iintro ⟨HJ, Hce⟩
  iapply (run_ring m K c (oddT s))
  isplitr; · iexact HS
  isplitl [HJ]; · iexact HJ
  isplitl [Hlr]; · rw [ringB_odd, rq_odd]; iexact Hlr
  isplitl [Hf']; · iexact Hf'
  iintro ⟨HJ, Hco⟩
  iapply (run_out m K c (ownSlot s))
  isplitr; · iexact HS
  isplitl [Hr]; · iexact Hr
  isplitl [Ho]; · iexact Ho
  iintro Hcr
  iapply Hk
  isplitl [HJ]; · iexact HJ
  isplitl [Hz1]; · iexact Hz1
  isplitl [Hz2]; · iexact Hz2
  isplitl [Hx]; · iexact Hx
  isplitl [Hs]; · iexact Hs
  isplitl [Hy]; · iexact Hy
  isplitl [Hce]; · iexact Hce
  isplitl [Hco] <;> iassumption

/-! ### The hops -/

def hopPre (k : Fin 40) : sProp 𝕄 :=
  iprop(credAt c (rrecv (predT k)) ∗ pos0 c (rrecv (predT k)) ∗ fly c (onT k) ∗ outTok c (landSlot (predT k)))
def hopPost (k : Fin 40) : sProp 𝕄 := iprop(closed c (rrecv (predT k)) ∗ credAt c (rsend (onT k)) ∗ credAt c out)

theorem levels_hop : ∀ k : Fin 40, ∀ d : Debt, 27 + k.val ≤ rank d → lvR (rrecv (predT k)) < lvR (debtRole d) := by decide +kernel

theorem hop_step (i : Fin 40) (k : Step F) {Q : PUnit.{1} → sProp 𝕄} :
    iprop(Sh m K ∗ J c (27 + i.val) ∗ hopPre c i ∗ ((J c (27 + (i.val + 1)) ∗ hopPost c i) -∗ run c k Q)) ⊢ run c ((hopStep c i).bind fun _ => k) Q := by
  unfold hopPre hopPost
  rw [show ((hopStep c i).bind fun _ => k) = ((recvStep c (predT i)).bind fun _ => (ringSend c (onT i)).bind fun _ => (outStep c (landSlot (predT i))).bind fun _ => k) from rfl]
  iintro ⟨#HS, HJ, ⟨Hc, Hp, Hf, Ho⟩, Hk⟩
  iapply (run_recv m K c (predT i) (27 + i.val) (levels_hop i))
  isplitr; · iexact HS
  isplitl [HJ]; · iexact HJ
  isplitl [Hc]; · iexact Hc
  isplitl [Hp]; · iexact Hp
  iintro ⟨HJ, Hz, Hg⟩
  ihave Hg := (ptsG_halves c _ fullShare (G m c)).1 $$ Hg
  icases Hg with ⟨Hl, Hr⟩
  iapply (run_ring m K c (onT i))
  isplitr; · iexact HS
  isplitl [HJ]; · rw [show 11 + (onT i).val = 27 + i.val by show 11 + (16 + i.val) = _; omega]; iexact HJ
  isplitl [Hl]; · rw [ringB_on, rq_on]; iexact Hl
  isplitl [Hf]; · iexact Hf
  iintro ⟨HJ, Hcs⟩
  iapply (run_out m K c (landSlot (predT i)))
  isplitr; · iexact HS
  isplitl [Hr]; · iexact Hr
  isplitl [Ho]; · iexact Ho
  iintro Hcr
  iapply Hk
  isplitl [HJ]; · rw [show 27 + (i.val + 1) = 11 + (onT i).val + 1 by show _ = 11 + (16 + i.val) + 1; omega]; iexact HJ
  isplitl [Hz]; · iexact Hz
  isplitl [Hcs] <;> iassumption

theorem levels_end (r : Role) : ∀ d : Debt, 67 ≤ rank d → lvR r < lvR (debtRole d) := by
  rintro (a | a | a) h <;> simp only [rank] at h <;> omega

def lastPre (j : Fin 16) : sProp 𝕄 := iprop(credAt c (rrecv (lastT j)) ∗ pos0 c (rrecv (lastT j)) ∗ outTok c (landSlot (lastT j)))
def lastPost (j : Fin 16) : sProp 𝕄 :=
  iprop(closed c (rrecv (lastT j)) ∗ ptsG c (slotB c (landSlot (lastT j))) fullShare.left (G m c) ∗ credAt c out)

theorem last_step (j : Fin 16) (k : Step F) {Q : PUnit.{1} → sProp 𝕄} :
    iprop(Sh m K ∗ J c 67 ∗ lastPre c j ∗ ((J c 67 ∗ lastPost m c j) -∗ run c k Q)) ⊢ run c ((lastStep c j).bind fun _ => k) Q := by
  unfold lastPre lastPost
  rw [show ((lastStep c j).bind fun _ => k) = ((recvStep c (lastT j)).bind fun _ => (outStep c (landSlot (lastT j))).bind fun _ => k) from rfl]
  iintro ⟨#HS, HJ, ⟨Hc, Hp, Ho⟩, Hk⟩
  iapply (run_recv m K c (lastT j) 67 (levels_end _))
  isplitr; · iexact HS
  isplitl [HJ]; · iexact HJ
  isplitl [Hc]; · iexact Hc
  isplitl [Hp]; · iexact Hp
  iintro ⟨HJ, Hz, Hg⟩
  ihave Hg := (ptsG_halves c _ fullShare (G m c)).1 $$ Hg
  icases Hg with ⟨Hl, Hr⟩
  iapply (run_out m K c (landSlot (lastT j)))
  isplitr; · iexact HS
  isplitl [Hr]; · iexact Hr
  isplitl [Ho]; · iexact Ho
  iintro Hcr
  iapply Hk
  isplitl [HJ]; · iexact HJ
  isplitl [Hz]; · iexact Hz
  isplitl [Hl] <;> iassumption

/-! ### The drains -/

def sentPre (j : Fin 56) : sProp 𝕄 := iprop(credAt c (rsend (sentT j)) ∗ pos0 c (rsend (sentT j)))
def sentPost (j : Fin 56) : sProp 𝕄 := iprop(closed c (rsend (sentT j)) ∗ ptsG c (ringB c (sentT j)) (rq (sentT j)) (G m c))

theorem sent_step (j : Fin 56) (k : Step F) {Q : PUnit.{1} → sProp 𝕄} :
    iprop(Sh m K ∗ J c 67 ∗ sentPre c j ∗ ((J c 67 ∗ sentPost m c j) -∗ run c k Q)) ⊢ run c ((sentStep c j).bind fun _ => k) Q := by
  unfold sentPre sentPost
  iintro ⟨#HS, HJ, ⟨Hc, Hp⟩, Hk⟩
  simp only [sentStep, Prog.lift, Prog.bind]
  iapply (run_wait m K c (rsend (sentT j)) rfl 67 (levels_end _)
    (w := .waitDma2 (rSend (sentT j)) (gP (isBlk_ring c (sentT j))) (gP (isBlk_ring c (sentT j))) _ _)
    (wpE_waitDma2_eq 𝒱₀ (c : Thread nD τ) none Set.univ))
  isplitr; · iexact HS
  isplitl [HJ]; · iexact HJ
  isplitl [Hc]; · iexact Hc
  isplitl [Hp]; · iexact Hp
  iexact Hk

/-- The copies' semaphore after `k` of its 64 waits: some of the copies have arrived; after the last one, all. -/
def drained (k : ℕ) : sProp 𝕄 :=
  if k < 64 then iprop(∃ S : Finset (Fin 64), atPos ER (cell c out) 0 S (k * NB) ∗ bigSep S (pay m c out))
  else iprop(closed c out ∗ bigSep Finset.univ (pay m c out))

theorem drain_step (i : Fin 64) (k : Step F) {Q : PUnit.{1} → sProp 𝕄} :
    iprop(Sh m K ∗ (J c 67 ∗ drained m c i.val) ∗ credAt c out ∗ (((J c 67 ∗ drained m c (i.val + 1)) ∗ emp) -∗ run c k Q)) ⊢ run c ((drainStep c i).bind fun _ => k) Q := by
  rw [drained, if_pos i.isLt]
  iintro ⟨#HS, ⟨HJ, ⟨%T, Ha, HT⟩⟩, Hc, Hk⟩
  simp only [drainStep, Prog.lift, Prog.bind]
  by_cases h : i.val + 1 < 64
  · iapply (run_some m K c out 67 (levels_end _) (i.val * NB) T
      (w := .waitDma2 outSem (gP (isBlk_slot c ⟨slotOf i.val, slotOf_lt i⟩)) (oP (isBlk_slot c ⟨slotOf i.val, slotOf_lt i⟩)) _ _)
      (wpE_waitDma2_eq 𝒱₀ (c : Thread nD τ) none Set.univ))
    isplitr; · iexact HS
    isplitl [HJ]; · iexact HJ
    isplitl [Hc]; · iexact Hc
    isplitl [Ha]; · iexact Ha
    iintro %S ⟨%hS, HJ, Ha, Hp⟩
    iapply Hk
    isplitl [HJ Ha Hp HT]
    · isplitl [HJ]; · iexact HJ
      rw [drained, if_pos h, Nat.succ_mul]
      iexists S
      isplitl [Ha]; · iexact Ha
      iapply (join_sdiff hS.1 (pay m c out))
      isplitl [HT] <;> iassumption
    · iempintro
  · have hi : i.val = 63 := by have := i.isLt; omega
    iapply (run_rest m K c out 67 (levels_end _) T (n := i.val * NB) (k' := NB) (by
        rw [hi, show (dutySet out).card = 64 from rfl, show amt out = NB from rfl]; omega)
      (w := .waitDma2 outSem (gP (isBlk_slot c ⟨slotOf i.val, slotOf_lt i⟩)) (oP (isBlk_slot c ⟨slotOf i.val, slotOf_lt i⟩)) _ _)
      (wpE_waitDma2_eq 𝒱₀ (c : Thread nD τ) none Set.univ))
    isplitr; · iexact HS
    isplitl [HJ]; · iexact HJ
    isplitl [Hc]; · iexact Hc
    isplitl [Ha]; · iexact Ha
    iintro ⟨HJ, Hz, Hp⟩
    iapply Hk
    isplitl [HJ Hz Hp HT]
    · isplitl [HJ]; · iexact HJ
      rw [drained, if_neg h]
      isplitl [Hz]; · iexact Hz
      ihave Hp := (Entails.of_eq (show bigSep (dutySet out \ T) (pay m c out) = bigSep (Finset.univ \ T) (pay m c out) from rfl)) $$ Hp
      iapply (join_sdiff (Finset.subset_univ T) (pay m c out))
      isplitl [HT] <;> iassumption
    · iempintro

end Steps

end Cert.KernelIdeal.Ring
end
-- ==== Proof.Ideal.Body.lean ====
/-
# The body from what a device starts with to what it leaves

The loops of the plan one after the other. What a device holds is kept as one conjunction per kind, over all blocks,
pieces, transfers or cells; the reindexings below deal it out to the loops and gather it again.
-/
module

public import proofs.«01_k».proof.Proof.Ideal.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Reindexing -/

section Reindex

theorem sum_all {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ
theorem unit_all (Φ : Unit → sProp 𝕄) : bigSep Finset.univ Φ = Φ () := by
  rw [show (Finset.univ : Finset Unit) = {()} from rfl, bigSep_singleton]

/-- All cells of a device, by kind. -/
theorem roles_all (Φ : Role → sProp 𝕄) : bigSep Finset.univ Φ
    = iprop(Φ bar ∗ Φ out ∗ (bigSep Finset.univ fun s => Φ (load s)) ∗ (bigSep Finset.univ fun s => Φ (ysend s)) ∗ (bigSep Finset.univ fun s => Φ (yrecv s))
        ∗ (bigSep Finset.univ fun t => Φ (rsend t)) ∗ bigSep Finset.univ fun t => Φ (rrecv t)) := by
  rw [sum_all, unit_all, sum_all, unit_all, sum_all, sum_all, sum_all, sum_all]

/-- All debts of a device, by kind. -/
theorem debts_all (Φ : Debt → sProp 𝕄) : bigSep Finset.univ Φ
    = iprop((Φ (.inl 0) ∗ Φ (.inl 1) ∗ Φ (.inl 2)) ∗ (bigSep Finset.univ fun s => Φ (.inr (.inl s))) ∗ bigSep Finset.univ fun t => Φ (.inr (.inr t))) := by
  rw [sum_all, sum_all, bigSep_univ_eq_bigSepL [0, 1, 2] (by decide) (by decide)]; rfl

/-- All blocks of a tall buffer by the slots they are on a device. -/
theorem blocks_slots (c : Dev nD) (Φ : Fin 64 → sProp 𝕄) : bigSep Finset.univ Φ = bigSep Finset.univ fun n => Φ (slotB c n) :=
  bigSep_univ_equiv (slotEquiv c) Φ
theorem slots_two (Φ : Fin 64 → sProp 𝕄) :
    bigSep Finset.univ Φ = iprop((bigSep Finset.univ fun s => Φ (ownSlot s)) ∗ bigSep Finset.univ fun t => Φ (landSlot t)) := by
  rw [bigSep_univ_equiv slots2Equiv Φ, sum_all]; rfl
theorem slots_three (Φ : Fin 64 → sProp 𝕄) :
    bigSep Finset.univ Φ = iprop(((bigSep Finset.univ fun s => Φ (ownSlot s)) ∗ bigSep Finset.univ fun k => Φ (landSlot (predT k)))
      ∗ bigSep Finset.univ fun j => Φ (landSlot (lastT j))) := by
  rw [bigSep_univ_equiv slotsEquiv Φ, sum_all, sum_all]; rfl
theorem sends_all (Φ : Fin 56 → sProp 𝕄) :
    bigSep Finset.univ Φ = iprop(((bigSep Finset.univ fun s => Φ (evenT s)) ∗ bigSep Finset.univ fun s => Φ (oddT s)) ∗ bigSep Finset.univ fun k => Φ (onT k)) := by
  rw [bigSep_univ_equiv sendsEquiv Φ, sum_all, sum_all]; rfl
theorem recvs_all (Φ : Fin 56 → sProp 𝕄) :
    bigSep Finset.univ Φ = iprop((bigSep Finset.univ fun k => Φ (predT k)) ∗ bigSep Finset.univ fun j => Φ (lastT j)) := by
  rw [bigSep_univ_equiv recvsEquiv Φ, sum_all]; rfl
theorem sent_all (Φ : Fin 56 → sProp 𝕄) : bigSep Finset.univ Φ = bigSep Finset.univ fun j => Φ (sentT j) := bigSep_univ_equiv sentEquiv Φ

end Reindex

/-! ## What a device starts with and what it leaves -/

section Device
variable (c : Dev nD)

def anyO (b : Fin 64) : sProp 𝕄 := iprop(∃ f, ptsO (F := F) c b f)
def anyG (b : Fin 64) : sProp 𝕄 := iprop(∃ f, ptsG (F := F) c b fullShare f)
def anyC (s : Fin 8) : sProp 𝕄 := iprop(∃ f, ptsC (F := F) c s f)
def anyS (s : Fin 8) : sProp 𝕄 := iprop(∃ f, ptsS (F := F) c s f)

/-- The duty of its debtor's cell a debt pays. -/
def debtDuty : Debt → Fin 64
  | .inl i => ⟨i.val, by omega⟩
  | .inr _ => 0

/-- The tokens device `c` pays with: at its own cells, at those of others. -/
def ownToks : sProp 𝕄 :=
  iprop((bigSep Finset.univ fun n => tok c out n) ∗ (bigSep Finset.univ fun s => tok c (load s) 0) ∗ (bigSep Finset.univ fun s => tok c (ysend s) 0)
    ∗ bigSep Finset.univ fun t => tok c (rsend t) 0)
def farToks : sProp 𝕄 := bigSep Finset.univ fun d : Debt => tok (debtTo d c) (debtRole d) (debtDuty d)
/-- The credit device `c` waits with at the cells others pay. -/
def farCreds : sProp 𝕄 :=
  iprop(cred (tallyAt (cell c bar) () 3) ∗ (bigSep Finset.univ fun s => credAt c (yrecv s)) ∗ bigSep Finset.univ fun t => credAt c (rrecv t))

theorem farToks_eq : (farToks c : sProp 𝕄) = iprop((tok (yDev c) bar 0 ∗ tok (upDev c) bar 1 ∗ tok (downDev c) bar 2)
    ∗ (bigSep Finset.univ fun s => tok (yDev c) (yrecv s) 0) ∗ bigSep Finset.univ fun t => tok (toDev c (dirOf t.val)) (rrecv t) 0) := by
  unfold farToks; rw [debts_all]; rfl

/-- The buffers at the start, cut into pieces: the argument's contents known, the others' not. -/
def bufs : sProp 𝕄 :=
  iprop((bigSep Finset.univ (ptsX m c)) ∗ (bigSep Finset.univ (anyO c)) ∗ (bigSep Finset.univ (anyG c)) ∗ (bigSep Finset.univ (anyC c))
    ∗ (bigSep Finset.univ (ownY c)) ∗ bigSep Finset.univ (anyS c))
/-- The buffers at the end. -/
def bufsEnd : sProp 𝕄 :=
  iprop((bigSep Finset.univ (ptsX m c)) ∗ (bigSep Finset.univ fun b => ptsO c b (G m c)) ∗ (bigSep Finset.univ fun b => ptsG c b fullShare (G m c))
    ∗ (bigSep Finset.univ fun s => ptsC c s (XC m c)) ∗ (bigSep Finset.univ fun s => ptsP c s (PC m c)) ∗ bigSep Finset.univ fun s => ptsS c s (SB m c))

/-! ### The loops' needs, kind by kind -/

theorem loadPre_all : bigSep Finset.univ (loadPre m c)
    = iprop((bigSep Finset.univ fun s => ptsX m c (slotB c (ownSlot s))) ∗ (bigSep Finset.univ (anyC c)) ∗ bigSep Finset.univ fun s => tok c (load s) 0) := by
  show (bigSep Finset.univ fun s => iprop(ptsX m c (slotB c (ownSlot s)) ∗ anyC c s ∗ tok c (load s) 0)) = _
  rw [bigSep_sep', bigSep_sep']
theorem crossPre_all : bigSep Finset.univ (crossPre (F := F) c)
    = iprop((bigSep Finset.univ (loadPost (F := F) c)) ∗ (bigSep Finset.univ fun s => pos0 c (load s)) ∗ (bigSep Finset.univ (anyS c))
        ∗ (bigSep Finset.univ fun s => tok c (ysend s) 0) ∗ (bigSep Finset.univ fun s => tok (yDev c) (yrecv s) 0) ∗ bigSep Finset.univ (yLanding c)) := by
  show (bigSep Finset.univ fun s => iprop(loadPost c s ∗ pos0 c (load s) ∗ anyS c s ∗ tok c (ysend s) 0 ∗ tok (yDev c) (yrecv s) 0 ∗ yLanding c s)) = _
  rw [bigSep_sep', bigSep_sep', bigSep_sep', bigSep_sep', bigSep_sep']
theorem crossPost_all : bigSep Finset.univ (crossPost m c)
    = iprop((bigSep Finset.univ fun s => closed c (load s)) ∗ (bigSep Finset.univ fun s => ptsX m c (slotB c (ownSlot s)))
        ∗ (bigSep Finset.univ fun s => ptsC c s (XC m c)) ∗ bigSep Finset.univ fun s => credAt c (ysend s)) := by
  show (bigSep Finset.univ fun s => iprop(closed c (load s) ∗ ptsX m c (slotB c (ownSlot s)) ∗ ptsC c s (XC m c) ∗ credAt c (ysend s))) = _
  rw [bigSep_sep', bigSep_sep', bigSep_sep']
theorem sumPre_all : bigSep Finset.univ (sumPre m c)
    = iprop((bigSep Finset.univ fun s => credAt c (ysend s)) ∗ (bigSep Finset.univ fun s => pos0 c (ysend s)) ∗ (bigSep Finset.univ fun s => credAt c (yrecv s))
        ∗ (bigSep Finset.univ fun s => pos0 c (yrecv s)) ∗ (bigSep Finset.univ fun s => ptsC c s (XC m c)) ∗ (bigSep Finset.univ fun s => anyG c (slotB c (ownSlot s)))
        ∗ (bigSep Finset.univ fun s => fly c (evenT s)) ∗ (bigSep Finset.univ fun s => fly c (oddT s)) ∗ bigSep Finset.univ fun s => outTok c (ownSlot s)) := by
  show (bigSep Finset.univ fun s => iprop(credAt c (ysend s) ∗ pos0 c (ysend s) ∗ credAt c (yrecv s) ∗ pos0 c (yrecv s) ∗ ptsC c s (XC m c)
    ∗ anyG c (slotB c (ownSlot s)) ∗ fly c (evenT s) ∗ fly c (oddT s) ∗ outTok c (ownSlot s))) = _
  rw [bigSep_sep', bigSep_sep', bigSep_sep', bigSep_sep', bigSep_sep', bigSep_sep', bigSep_sep', bigSep_sep']
theorem sumPost_all : bigSep Finset.univ (sumPost m c)
    = iprop((bigSep Finset.univ fun s => closed c (ysend s)) ∗ (bigSep Finset.univ fun s => closed c (yrecv s)) ∗ (bigSep Finset.univ fun s => ptsC c s (XC m c))
        ∗ (bigSep Finset.univ fun s => ptsS c s (SB m c)) ∗ (bigSep Finset.univ fun s => ptsP c s (PC m c))
        ∗ (bigSep Finset.univ fun s => credAt c (rsend (evenT s))) ∗ (bigSep Finset.univ fun s => credAt c (rsend (oddT s))) ∗ bigSep Finset.univ fun _ : Fin 8 => credAt c out) := by
  show (bigSep Finset.univ fun s => iprop(closed c (ysend s) ∗ closed c (yrecv s) ∗ ptsC c s (XC m c) ∗ ptsS c s (SB m c) ∗ ptsP c s (PC m c)
    ∗ credAt c (rsend (evenT s)) ∗ credAt c (rsend (oddT s)) ∗ credAt c out)) = _
  rw [bigSep_sep', bigSep_sep', bigSep_sep', bigSep_sep', bigSep_sep', bigSep_sep', bigSep_sep']
theorem hopPre_all : bigSep Finset.univ (hopPre (F := F) c)
    = iprop((bigSep Finset.univ fun k => credAt c (rrecv (predT k))) ∗ (bigSep Finset.univ fun k => pos0 c (rrecv (predT k)))
        ∗ (bigSep Finset.univ fun k => fly c (onT k)) ∗ bigSep Finset.univ fun k => outTok c (landSlot (predT k))) := by
  show (bigSep Finset.univ fun k => iprop(credAt c (rrecv (predT k)) ∗ pos0 c (rrecv (predT k)) ∗ fly c (onT k) ∗ outTok c (landSlot (predT k)))) = _
  rw [bigSep_sep', bigSep_sep', bigSep_sep']
theorem hopPost_all : bigSep Finset.univ (hopPost (F := F) c)
    = iprop((bigSep Finset.univ fun k => closed c (rrecv (predT k))) ∗ (bigSep Finset.univ fun k => credAt c (rsend (onT k))) ∗ bigSep Finset.univ fun _ : Fin 40 => credAt c out) := by
  show (bigSep Finset.univ fun k => iprop(closed c (rrecv (predT k)) ∗ credAt c (rsend (onT k)) ∗ credAt c out)) = _
  rw [bigSep_sep', bigSep_sep']
theorem lastPre_all : bigSep Finset.univ (lastPre (F := F) c)
    = iprop((bigSep Finset.univ fun j => credAt c (rrecv (lastT j))) ∗ (bigSep Finset.univ fun j => pos0 c (rrecv (lastT j)))
        ∗ bigSep Finset.univ fun j => outTok c (landSlot (lastT j))) := by
  show (bigSep Finset.univ fun j => iprop(credAt c (rrecv (lastT j)) ∗ pos0 c (rrecv (lastT j)) ∗ outTok c (landSlot (lastT j)))) = _
  rw [bigSep_sep', bigSep_sep']
theorem lastPost_all : bigSep Finset.univ (lastPost m c)
    = iprop((bigSep Finset.univ fun j => closed c (rrecv (lastT j))) ∗ (bigSep Finset.univ fun j => ptsG c (slotB c (landSlot (lastT j))) fullShare.left (G m c))
        ∗ bigSep Finset.univ fun _ : Fin 16 => credAt c out) := by
  show (bigSep Finset.univ fun j => iprop(closed c (rrecv (lastT j)) ∗ ptsG c (slotB c (landSlot (lastT j))) fullShare.left (G m c) ∗ credAt c out)) = _
  rw [bigSep_sep', bigSep_sep']
theorem sentPre_all : bigSep Finset.univ (sentPre (F := F) c)
    = iprop((bigSep Finset.univ fun t => credAt c (rsend t)) ∗ bigSep Finset.univ fun t => pos0 c (rsend t)) := by
  rw [sent_all fun t => credAt c (rsend t), sent_all fun t => pos0 c (rsend t)]
  exact bigSep_sep' _ _ _
theorem sentPost_all : bigSep Finset.univ (sentPost m c)
    = iprop((bigSep Finset.univ fun t => closed c (rsend t)) ∗ bigSep Finset.univ fun t => ptsG c (ringB c t) (rq t) (G m c)) := by
  rw [sent_all fun t => closed c (rsend t), sent_all fun t => ptsG c (ringB c t) (rq t) (G m c)]
  exact bigSep_sep' _ _ _
theorem fly_all : bigSep Finset.univ (fly (F := F) c)
    = iprop((bigSep Finset.univ fun t => tok c (rsend t) 0) ∗ (bigSep Finset.univ fun t => tok (toDev c (dirOf t.val)) (rrecv t) 0) ∗ bigSep Finset.univ (landing c)) := by
  show (bigSep Finset.univ fun t => iprop(tok c (rsend t) 0 ∗ tok (toDev c (dirOf t.val)) (rrecv t) 0 ∗ landing c t)) = _
  rw [bigSep_sep', bigSep_sep']
theorem outTok_all : bigSep Finset.univ (outTok (F := F) c) = iprop((bigSep Finset.univ (anyO c)) ∗ bigSep Finset.univ fun n => tok c out n) := by
  rw [blocks_slots c (anyO c)]
  exact bigSep_sep' _ _ _
/-- The copies' credits are as many as the copies. -/
theorem outCreds_all : (bigSep Finset.univ fun _ : Fin 64 => credAt (F := F) c out)
    = iprop(((bigSep Finset.univ fun _ : Fin 8 => credAt c out) ∗ bigSep Finset.univ fun _ : Fin 40 => credAt c out) ∗ bigSep Finset.univ fun _ : Fin 16 => credAt c out) :=
  slots_three fun _ => credAt c out

/-- The gathered buffer's shares come together again. -/
theorem G_rejoin : iprop((bigSep Finset.univ fun t => ptsG c (ringB c t) (rq t) (G m c))
      ∗ (bigSep Finset.univ fun j => ptsG c (slotB c (landSlot (lastT j))) fullShare.left (G m c))
      ∗ (bigSep Finset.univ fun n => ptsG c (slotB c n) fullShare.right (G m c)))
    ⊢ bigSep Finset.univ fun b => ptsG c b fullShare (G m c) := by
  have he : (bigSep Finset.univ fun s => iprop(ptsG c (ringB c (evenT s)) (rq (evenT s)) (G m c) ∗ ptsG c (ringB c (oddT s)) (rq (oddT s)) (G m c)))
      ⊢ bigSep Finset.univ fun s => ptsG c (slotB c (ownSlot s)) fullShare.left (G m c) :=
    bigSep_mono fun s _ => by
      rw [rq_even, rq_odd, ringB_even, ringB_odd]; exact (ptsG_halves c (slotB c (ownSlot s)) fullShare.left (G m c)).2
  have ho : (bigSep Finset.univ fun k => ptsG c (ringB c (onT k)) (rq (onT k)) (G m c))
      = bigSep Finset.univ fun k => ptsG c (slotB c (landSlot (predT k))) fullShare.left (G m c) :=
    bigSep_congr fun k _ => by rw [rq_on, ringB_on]
  have hj : (bigSep Finset.univ fun n => iprop(ptsG c (slotB c n) fullShare.left (G m c) ∗ ptsG c (slotB c n) fullShare.right (G m c)))
      ⊢ bigSep Finset.univ fun n => ptsG c (slotB c n) fullShare (G m c) :=
    bigSep_mono fun n _ => (ptsG_halves c (slotB c n) fullShare (G m c)).2
  rw [sends_all fun t => ptsG c (ringB c t) (rq t) (G m c), ho, ← bigSep_sep', blocks_slots c fun b => ptsG c b fullShare (G m c)]
  rw [bigSep_sep', slots_three fun n => ptsG c (slotB c n) fullShare.left (G m c)] at hj
  iintro ⟨⟨H1, H2⟩, H3, H4⟩
  ihave H1 := he $$ H1
  iapply hj
  isplitr [H4]
  · isplitl [H1 H2]
    · isplitl [H1] <;> iassumption
    iexact H3
  · iexact H4

end Device

section Run
variable (K : Dev nD × Role → ℕ) (c : Dev nD)

/-- What a device starts its body with, the shared facts and its account aside. -/
def begin_ : sProp 𝕄 := iprop((bigSep Finset.univ fun r => pos0 c r) ∗ ownToks c ∗ farToks c ∗ farCreds c ∗ bufs m c)
/-- What its body leaves. -/
def end_ : sProp 𝕄 := iprop((bigSep Finset.univ fun r => closed c r) ∗ bufsEnd m c)

theorem run_plan {Q : PUnit.{1} → sProp 𝕄} :
    iprop(Sh m K ∗ J c 0 ∗ begin_ m c ∗ ((J c 67 ∗ end_ m c) -∗ Q ⟨⟩)) ⊢ run c (plan c) Q := by
  unfold begin_ ownToks farCreds bufs plan
  rw [roles_all, farToks_eq, blocks_slots c (ptsX m c), slots_two fun n => ptsX m c (slotB c n), blocks_slots c (anyG c), slots_two fun n => anyG c (slotB c n)]
  iintro ⟨#HS, HJ, ⟨⟨Pbar, Pout, Pload, Pys, Pyr, Prs, Prr⟩, ⟨Tout, Tload, Tys, Trs⟩, ⟨⟨Tb0, Tb1, Tb2⟩, Tyr, Trr⟩, ⟨Cbar, Cyr, Crr⟩, ⟨Hx, Hxr⟩, Ho, ⟨Hg, Hgl⟩, Hc, Hy, Hs⟩, Hk⟩
  -- the loads
  iapply (run_steps 8 (loadStep c) (fun _ => J c 0) (loadPre m c) (loadPost c) (fun i k => load_step m K c i k))
  isplitr; · iexact HS
  isplitl [HJ]; · iexact HJ
  isplitl [Hx Hc Tload]
  · rw [loadPre_all]
    isplitl [Hx]; · iexact Hx
    isplitl [Hc] <;> iassumption
  iintro ⟨HJ, Cload⟩
  -- the barrier
  iapply (bar_step m K c)
  isplitr; · iexact HS
  isplitl [HJ]; · iexact HJ
  isplitl [Hy Hgl Tb0 Tb1 Tb2 Cbar Pbar]
  · unfold barPre
    isplitl [Hy]; · iexact Hy
    isplitl [Hgl]; · iexact Hgl
    isplitl [Tb0]; · iexact Tb0
    isplitl [Tb1]; · iexact Tb1
    isplitl [Tb2]; · iexact Tb2
    isplitl [Cbar] <;> iassumption
  unfold barPost
  iintro ⟨HJ, Zbar, Hyl, Hl⟩
  -- across `y`
  iapply (run_steps 8 (crossStep c) (fun n => J c (3 + n)) (crossPre c) (crossPost m c) (fun i k => cross_step m K c i k))
  isplitr; · iexact HS
  isplitl [HJ]; · iexact HJ
  isplitl [Cload Pload Hs Tys Tyr Hyl]
  · rw [crossPre_all]
    isplitl [Cload]; · iexact Cload
    isplitl [Pload]; · iexact Pload
    isplitl [Hs]; · iexact Hs
    isplitl [Tys]; · iexact Tys
    isplitl [Tyr] <;> iassumption
  rw [crossPost_all]
  iintro ⟨HJ, Zload, Hx, Hc, Cys⟩
  -- the tokens and landing pieces of the ring, by the loops that use them
  ihave Hfly := (Entails.of_eq ((fly_all c).symm.trans (sends_all (fly c)))) $$ [Trs Trr Hl]
  · isplitl [Trs]; · iexact Trs
    isplitl [Trr] <;> iassumption
  icases Hfly with ⟨⟨Fe, Fo⟩, Fk⟩
  ihave Hot := (Entails.of_eq ((outTok_all c).symm.trans (slots_three (outTok c)))) $$ [Ho Tout]
  · isplitl [Ho] <;> iassumption
  icases Hot with ⟨⟨O1, O2⟩, O3⟩
  ihave Crr := (Entails.of_eq (recvs_all fun t => credAt c (rrecv t))) $$ Crr
  icases Crr with ⟨Cp, Cl⟩
  ihave Prr := (Entails.of_eq (recvs_all fun t => pos0 c (rrecv t))) $$ Prr
  icases Prr with ⟨Pp, Pl⟩
  -- the sums
  iapply (run_steps 8 (sumStep c) (fun n => J c (11 + 2 * n)) (sumPre m c) (sumPost m c) (fun i k => sum_step m K c i k))
  isplitr; · iexact HS
  isplitl [HJ]; · iexact HJ
  isplitl [Cys Pys Cyr Pyr Hc Hg Fe Fo O1]
  · rw [sumPre_all]
    isplitl [Cys]; · iexact Cys
    isplitl [Pys]; · iexact Pys
    isplitl [Cyr]; · iexact Cyr
    isplitl [Pyr]; · iexact Pyr
    isplitl [Hc]; · iexact Hc
    isplitl [Hg]; · iexact Hg
    isplitl [Fe]; · iexact Fe
    isplitl [Fo] <;> iassumption
  rw [sumPost_all]
  iintro ⟨HJ, Zys, Zyr, Hc, Hs, Hp, Ce, Co, Cout1⟩
  -- the hops
  iapply (run_steps 40 (hopStep c) (fun n => J c (27 + n)) (hopPre c) (hopPost c) (fun i k => hop_step m K c i k))
  isplitr; · iexact HS
  isplitl [HJ]; · iexact HJ
  isplitl [Cp Pp Fk O2]
  · rw [hopPre_all]
    isplitl [Cp]; · iexact Cp
    isplitl [Pp]; · iexact Pp
    isplitl [Fk] <;> iassumption
  rw [hopPost_all]
  iintro ⟨HJ, Zp, Ck, Cout2⟩
  iapply (run_steps 16 (lastStep c) (fun _ => J c 67) (lastPre c) (lastPost m c) (fun i k => last_step m K c i k))
  isplitr; · iexact HS
  isplitl [HJ]; · iexact HJ
  isplitl [Cl Pl O3]
  · rw [lastPre_all]
    isplitl [Cl]; · iexact Cl
    isplitl [Pl] <;> iassumption
  rw [lastPost_all]
  iintro ⟨HJ, Zl, Gl, Cout3⟩
  -- the drains
  ihave Crs := (Entails.of_eq (sends_all fun t => credAt c (rsend t)).symm) $$ [Ce Co Ck]
  · isplitl [Ce Co]
    · isplitl [Ce] <;> iassumption
    iexact Ck
  iapply (run_steps 56 (sentStep c) (fun _ => J c 67) (sentPre c) (sentPost m c) (fun i k => sent_step m K c i k))
  isplitr; · iexact HS
  isplitl [HJ]; · iexact HJ
  isplitl [Crs Prs]
  · rw [sentPre_all]
    isplitl [Crs] <;> iassumption
  rw [sentPost_all]
  iintro ⟨HJ, Zrs, Gs⟩
  iapply (run_steps 64 (drainStep c) (fun n => iprop(J c 67 ∗ drained m c n)) (fun _ => credAt c out) (fun _ => iprop(emp)) (fun i k => drain_step m K c i k))
  isplitr; · iexact HS
  isplitl [HJ Pout]
  · isplitl [HJ]; · iexact HJ
    rw [drained, if_pos (by decide)]
    iexists ∅
    isplitl [Pout]; · rw [Nat.zero_mul]; iexact Pout
    rw [bigSep_empty]; iempintro
  isplitl [Cout1 Cout2 Cout3]
  · rw [outCreds_all]
    isplitr [Cout3]
    · isplitl [Cout1] <;> iassumption
    iexact Cout3
  rw [drained, if_neg (by decide)]
  iintro ⟨⟨HJ, Zout, Hpay⟩, -⟩
  rw [run, wp_ret]; imodintro
  iapply Hk
  isplitl [HJ]; · iexact HJ
  ihave Hpay := (Entails.of_eq (show bigSep Finset.univ (pay m c out)
    = iprop((bigSep Finset.univ fun n => ptsO c (slotB c n) (G m c)) ∗ bigSep Finset.univ fun n => ptsG c (slotB c n) fullShare.right (G m c)) from bigSep_sep' _ _ _)) $$ Hpay
  icases Hpay with ⟨Ho, Gr⟩
  ihave Hg := (G_rejoin m c) $$ [Gs Gl Gr]
  · isplitl [Gs]; · iexact Gs
    isplitl [Gl] <;> iassumption
  unfold end_ bufsEnd
  isplitr [Hx Hxr Ho Hg Hc Hp Hs]
  · rw [roles_all, recvs_all fun t => closed c (rrecv t)]
    isplitl [Zbar]; · iexact Zbar
    isplitl [Zout]; · iexact Zout
    isplitl [Zload]; · iexact Zload
    isplitl [Zys]; · iexact Zys
    isplitl [Zyr]; · iexact Zyr
    isplitl [Zrs]; · iexact Zrs
    isplitl [Zp] <;> iassumption
  · rw [blocks_slots c (ptsX m c), slots_two fun n => ptsX m c (slotB c n), blocks_slots c fun b => ptsO c b (G m c)]
    isplitl [Hx Hxr]
    · isplitl [Hx] <;> iassumption
    isplitl [Ho]; · iexact Ho
    isplitl [Hg]; · iexact Hg
    isplitl [Hc]; · iexact Hc
    isplitl [Hp] <;> iassumption

end Run

end Cert.KernelIdeal.Ring
end
-- ==== Proof.Ideal.Launch.lean ====
/-
# The launch

Every device's cells are opened at once, the tokens are dealt to the devices that pay with them, the launch's credit to
the devices that wait with it; each device then runs its body, and at the end the argument is as it was, the result is
the gathered sum, and all counters are back at zero.
-/
module

public import proofs.«01_k».proof.Proof.Ideal.Body
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers and their pieces -/

section Bufs
variable (c : Dev nD)

theorem ptsX_all : bigSep Finset.univ (ptsX m c) = (((c : Thread nD τ).loc main_arg0) ↦{fullShare} m ((c : Thread nD τ).loc main_arg0) : sProp 𝕄) :=
  (pointsTo_biUnion (ℓ := (c : Thread nD τ).loc main_arg0) Finset.univ B8 fun a _ b _ h => B8_disj a b h).symm.trans
    (congrArg (fun S => (((c : Thread nD τ).loc main_arg0) ↦[S]{fullShare} xIn m c : sProp 𝕄)) B8_cover)
theorem ptsO_all (f : S8192x1024.Idx → Elt F .bf16) : (bigSep Finset.univ fun b => ptsO c b f) = (((c : Thread nD τ).loc main_v1) ↦{fullShare} f : sProp 𝕄) :=
  (pointsTo_biUnion (ℓ := (c : Thread nD τ).loc main_v1) Finset.univ B8 fun a _ b _ h => B8_disj a b h).symm.trans
    (congrArg (fun S => (((c : Thread nD τ).loc main_v1) ↦[S]{fullShare} f : sProp 𝕄)) B8_cover)
theorem ptsG_all (f : S8192x1024.Idx → Elt F .bf16) : (bigSep Finset.univ fun b => ptsG c b fullShare f) = (((c : Thread nD τ).loc cc0_scratch0) ↦{fullShare} f : sProp 𝕄) :=
  (pointsTo_biUnion (ℓ := (c : Thread nD τ).loc cc0_scratch0) Finset.univ B8 fun a _ b _ h => B8_disj a b h).symm.trans
    (congrArg (fun S => (((c : Thread nD τ).loc cc0_scratch0) ↦[S]{fullShare} f : sProp 𝕄)) B8_cover)
theorem ptsC_all (f : S1024x1024.Idx → Elt F .f32) : (bigSep Finset.univ fun s => ptsC c s f) = (((c : Thread nD τ).loc cc0_scratch1) ↦{fullShare} f : sProp 𝕄) :=
  (pointsTo_biUnion (ℓ := (c : Thread nD τ).loc cc0_scratch1) Finset.univ B1 fun a _ b _ h => B1_disj a b h).symm.trans
    (congrArg (fun S => (((c : Thread nD τ).loc cc0_scratch1) ↦[S]{fullShare} f : sProp 𝕄)) B1_cover)
theorem ptsP_all (f : S1024x1024.Idx → Elt F .bf16) : (bigSep Finset.univ fun s => ptsP c s f) = (((c : Thread nD τ).loc cc0_scratch2) ↦{fullShare} f : sProp 𝕄) :=
  (pointsTo_biUnion (ℓ := (c : Thread nD τ).loc cc0_scratch2) Finset.univ B1 fun a _ b _ h => B1_disj a b h).symm.trans
    (congrArg (fun S => (((c : Thread nD τ).loc cc0_scratch2) ↦[S]{fullShare} f : sProp 𝕄)) B1_cover)
theorem ptsS_all (f : S1024x1024.Idx → Elt F .bf16) : (bigSep Finset.univ fun s => ptsS c s f) = (((c : Thread nD τ).loc cc0_scratch3) ↦{fullShare} f : sProp 𝕄) :=
  (pointsTo_biUnion (ℓ := (c : Thread nD τ).loc cc0_scratch3) Finset.univ B1 fun a _ b _ h => B1_disj a b h).symm.trans
    (congrArg (fun S => (((c : Thread nD τ).loc cc0_scratch3) ↦[S]{fullShare} f : sProp 𝕄)) B1_cover)

/-- What is known of a buffer's pieces separately is known of each at some contents. -/
theorem any_intro {n : ℕ} {α : Type} (Φ : Fin n → α → sProp 𝕄) (f : α) : (bigSep Finset.univ fun b => Φ b f) ⊢ bigSep Finset.univ fun b => iprop(∃ g, Φ b g) :=
  bigSep_mono fun b _ => show Φ b f ⊢ iprop(∃ g, Φ b g) from by iintro H; iexists f; iexact H

/-- Argument and result of a device. -/
def xy (f : S8192x1024.Idx → Elt F .bf16) : sProp 𝕄 :=
  iprop((((c : Thread nD τ).loc main_arg0) ↦{fullShare} m ((c : Thread nD τ).loc main_arg0)) ∗ (((c : Thread nD τ).loc main_v1) ↦{fullShare} f))

theorem bufs_intro (f : S8192x1024.Idx → Elt F .bf16) : iprop(xy m c f ∗ Pipeline.scopedRest cfg0.spec c) ⊢ bufs m c := by
  rw [scopedRest0_eq]
  unfold xy bufs
  iintro ⟨⟨Hx, Ho⟩, ⟨%f0, H0⟩, ⟨%f1, H1⟩, ⟨%f2, H2⟩, ⟨%f3, H3⟩⟩
  isplitl [Hx]; · rw [ptsX_all]; iexact Hx
  isplitl [Ho]
  · iapply (any_intro (ptsO c) f); rw [ptsO_all]; iexact Ho
  isplitl [H0]
  · iapply (any_intro (fun b f => ptsG c b fullShare f) f0); rw [ptsG_all]; iexact H0
  isplitl [H1]
  · iapply (any_intro (ptsC c) f1); rw [ptsC_all]; iexact H1
  isplitl [H2]
  · iapply (any_intro (ptsP c) f2); rw [ptsP_all]; iexact H2
  · iapply (any_intro (ptsS c) f3); rw [ptsS_all]; iexact H3

theorem bufs_exit : bufsEnd m c ⊢ iprop(xy m c (G m c) ∗ Pipeline.scopedRest cfg0.spec c) := by
  rw [scopedRest0_eq]
  unfold xy bufsEnd
  rw [ptsX_all, ptsO_all, ptsG_all, ptsC_all, ptsP_all, ptsS_all]
  iintro ⟨Hx, Ho, H0, H1, H2, H3⟩
  isplitl [Hx Ho]
  · isplitl [Hx] <;> iassumption
  isplitl [H0]; · iexists _; iexact H0
  isplitl [H1]; · iexists _; iexact H1
  isplitl [H2]; · iexists _; iexact H2
  iexists _; iexact H3

end Bufs

/-! ## The cells' ghost state -/

def ringCells : Finset (GSem nD τ sig) := Finset.univ.map ⟨kcell, kcell_injective⟩

/-- The duties of a device's cells: those others' debts pay, those it pays itself. -/
abbrev TokIdx : Type := Debt ⊕ Fin 64 ⊕ Fin 8 ⊕ Fin 8 ⊕ Fin 56
def tokAt : TokIdx → Role × Fin 64
  | .inl d => (debtRole d, debtDuty d)
  | .inr (.inl n) => (out, n)
  | .inr (.inr (.inl s)) => (load s, 0)
  | .inr (.inr (.inr (.inl s))) => (ysend s, 0)
  | .inr (.inr (.inr (.inr t))) => (rsend t, 0)
set_option maxRecDepth 8000 in
theorem tokAt_injective : Function.Injective tokAt := by decide +kernel
abbrev tokOf (cj : Dev nD × TokIdx) : GSem nD τ sig × ℕ × Fin 64 := (cell cj.1 (tokAt cj.2).1, 0, (tokAt cj.2).2)
theorem tokOf_injective : Function.Injective tokOf := by
  rintro ⟨c, j⟩ ⟨c', j'⟩ h
  have h1 : (c, (tokAt j).1) = (c', (tokAt j').1) := kcell_injective (congrArg Prod.fst h)
  have h2 : (tokAt j).2 = (tokAt j').2 := congrArg (fun x : GSem nD τ sig × ℕ × Fin 64 => x.2.2) h
  exact Prod.ext (congrArg (fun x : Dev nD × Role => x.1) h1) (tokAt_injective (Prod.ext (congrArg (fun x : Dev nD × Role => x.2) h1) h2))
def ringToks : Finset (GSem nD τ sig × ℕ × Fin 64) := Finset.univ.map ⟨tokOf, tokOf_injective⟩

def u₀ : UU :=
  (initOf (Pipeline.cells cfgs cellOf_inj) (Pipeline.launchToks cfgs cellOf_inj), initOf ringCells ringToks)

/-- The tokens of a device's cells that others pay with. -/
def debtToks (c : Dev nD) : sProp 𝕄 := bigSep Finset.univ fun d : Debt => tok c (debtRole d) (debtDuty d)

theorem toks_all (c : Dev nD) : (bigSep Finset.univ fun j : TokIdx => tok (F := F) c (tokAt j).1 (tokAt j).2) = iprop(debtToks c ∗ ownToks c) := by
  have h : (bigSep Finset.univ fun b : Fin 64 ⊕ Fin 8 ⊕ Fin 8 ⊕ Fin 56 => tok (F := F) c (tokAt (.inr b)).1 (tokAt (.inr b)).2) = ownToks c := by
    rw [sum_all, sum_all, sum_all]; rfl
  rw [sum_all, h]; rfl

/-- What the launch deals a device at first. -/
def deal (c : Dev nD) : sProp 𝕄 :=
  iprop((bigSep Finset.univ fun r => roundState ER (ringRd m) (cell c r) 0)
    ∗ (bigSep Finset.univ fun r => pos0 c r) ∗ (bigSep Finset.univ fun r => reached ER (cell c r) 0) ∗ debtToks c ∗ ownToks c)
/-- What it has once every device's cells are open. -/
def dealt (c : Dev nD) : sProp 𝕄 := iprop(∃ K, records m K ∗ (bigSep Finset.univ fun r => pos0 c r) ∗ ownToks c ∗ farToks c)

theorem fund : BI.own (ER (initOf ringCells ringToks)) ⊢ (|==> bigSep Finset.univ (deal m) : sProp 𝕄) := by
  have hX (Φ : GSem nD τ sig → sProp 𝕄) : bigSep ringCells Φ = bigSep Finset.univ fun c : Dev nD => bigSep Finset.univ fun r : Role => Φ (cell c r) := by
    unfold ringCells; rw [bigSep_map, bigSep_univ_prod]; rfl
  have hT : bigSep ringToks (fun x => (dutyTok ER x.1 x.2.1 x.2.2 : sProp 𝕄)) = bigSep Finset.univ fun c : Dev nD => iprop(debtToks c ∗ ownToks c) := by
    unfold ringToks; rw [bigSep_map, bigSep_univ_prod]
    exact bigSep_congr fun c _ => toks_all c
  have hD : iprop((bigSep Finset.univ fun c : Dev nD => bigSep Finset.univ fun r : Role => roundState ER (ringRd m) (cell c r) 0)
      ∗ (bigSep Finset.univ fun c : Dev nD => bigSep Finset.univ fun r : Role => pos0 c r)
      ∗ (bigSep Finset.univ fun c : Dev nD => bigSep Finset.univ fun r : Role => reached ER (cell c r) 0)
      ∗ bigSep Finset.univ fun c : Dev nD => iprop(debtToks c ∗ ownToks c)) = bigSep Finset.univ (deal m) := by
    unfold deal; conv_rhs => rw [bigSep_sep', bigSep_sep', bigSep_sep']
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (Entails.of_eq hD)
  isplitl [Hst']; · iexact Hst'
  isplitl [Hat']; · iexact Hat'
  isplitl [Hr']; · iexact Hr'
  iexact Htok'

/-- A device's own semaphores and the barrier are its cells. -/
theorem unscopedSems0_eq (c : Dev nD) : (unscopedSems0 c : sProp 𝕄) = closed c bar := by
  unfold unscopedSems0; rw [bigSep_eq_bigSepL_of_eq [SemLoc.reg barS] (by decide +kernel) (by decide)]; rfl
theorem sems_eq (c : Dev nD) :
    (bigSep Finset.univ fun r => closed (F := F) c r) = iprop(unscopedSems0 c ∗ Pipeline.ownSems0 osem c) := by
  rw [sum_all, unit_all, unscopedSems0_eq]; rfl

theorem core_alloc (c : Dev nD) : iprop(Pipeline.ownSems0 osem c ∗ unscopedSems0 c ∗ deal m c)
    ⊢ |={Set.univ}=> iprop((bigSep Finset.univ fun r => iprop(∃ κ : ℕ, cellInv ER (ringRd m) κ (cell c r)))
        ∗ (bigSep Finset.univ fun r => pos0 c r) ∗ (bigSep Finset.univ fun r => reached ER (cell c r) 0) ∗ debtToks c ∗ ownToks c) := by
  unfold deal
  iintro ⟨Hos, Hus, Hst, Hrest⟩
  ihave Hv := (Entails.of_eq (sems_eq c).symm) $$ [Hos Hus]
  · isplitl [Hus] <;> iassumption
  imod (show iprop((bigSep Finset.univ fun r => closed c r) ∗ bigSep Finset.univ fun r => roundState ER (ringRd m) (cell c r) 0)
      ⊢ (|={Set.univ}=> bigSep Finset.univ fun r => iprop(∃ κ : ℕ, cellInv ER (ringRd m) κ (cell c r)) : sProp 𝕄) from by
        rw [← bigSep_sep']
        exact (bigSep_mono fun r _ => (Rounds.body_intro ER (ringRd m) (cell c r)).trans inv_alloc).trans (bigSep_fupd _ _)) $$ [Hv Hst] with Hinv
  · isplitl [Hv] <;> iassumption
  imodintro
  isplitl [Hinv]; · iexact Hinv
  iexact Hrest

/-- A token goes to the device that pays with it. -/
theorem toks_around : (bigSep Finset.univ fun c : Dev nD => (debtToks c : sProp 𝕄)) = bigSep Finset.univ fun c : Dev nD => farToks c := by
  unfold debtToks farToks
  rw [bigSep_univ_comm, bigSep_univ_comm (fun (c : Dev nD) (d : Debt) => tok (debtTo d c) (debtRole d) (debtDuty d))]
  exact bigSep_congr fun d _ => bigSep_univ_equiv (debtTo d) _

theorem bigSep_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun r => iprop(∃ κ : ℕ, cellInv ER (ringRd m) κ (cell c r)))
        ∗ (bigSep Finset.univ fun r => pos0 c r) ∗ (bigSep Finset.univ fun r => reached ER (cell c r) 0) ∗ debtToks c ∗ ownToks c) : sProp 𝕄)
      ⊢ bigSep Finset.univ (dealt m) := by
  rw [bigSep_sep', bigSep_sep', bigSep_sep', bigSep_sep', toks_around,
    ← bigSep_univ_prod (fun ck : Dev nD × Role => iprop(∃ κ : ℕ, cellInv ER (ringRd m) κ (kcell ck))),
    ← bigSep_univ_prod (fun ck : Dev nD × Role => (reached ER (kcell ck) 0 : sProp 𝕄))]
  iintro ⟨HI, Hat, #HR, Hfar, Hown⟩
  ihave HK := (BI.bigSep_exists_pi Finset.univ (fun (ck : Dev nD × Role) (κ : ℕ) => (cellInv ER (ringRd m) κ (kcell ck) : sProp 𝕄))) $$ HI
  icases HK with ⟨%K, #HI⟩
  iapply (bigSep_shared (R := records m K) (Φ := fun c => iprop((bigSep Finset.univ fun r => pos0 c r) ∗ ownToks c ∗ farToks c))
    fun c _ => show _ ⊢ dealt m c from by unfold dealt; iintro H; iexists K; iexact H)
  isplitr
  · unfold records; isplitl; · iexact HI
    iexact HR
  rw [bigSep_sep', bigSep_sep']
  isplitl [Hat]; · iexact Hat
  isplitl [Hown] <;> iassumption

theorem glob : (bigSep Finset.univ fun c => iprop(Pipeline.ownSems0 osem c ∗ unscopedSems0 c ∗ deal m c) : sProp 𝕄)
    ⊢ |={Set.univ}=> bigSep Finset.univ (dealt m) :=
  ((bigSep_mono fun c _ => core_alloc m c).trans (bigSep_fupd _ _)).trans (BI.fupd_mono (regroup m))

/-! ## The launch's credit -/

/-- What others owe a device. -/
def due (c : Dev nD) : CellTallies nD τ sig Unit := ∑ d : Debt, tallyAt (cell c (debtRole d)) () (amt (debtRole d))

theorem owed_sum : (∑ c : Dev nD, owed c 0) = ∑ c : Dev nD, due c := by
  have h (c : Dev nD) : owed c 0 = ∑ d : Debt, debt c d := by unfold owed; rw [Finset.filter_true_of_mem fun d _ => Nat.zero_le _]
  rw [Finset.sum_congr rfl fun c _ => h c]
  unfold due
  rw [Finset.sum_comm, Finset.sum_comm (s := (Finset.univ : Finset (Dev nD)))]
  exact Finset.sum_congr rfl fun d _ => Equiv.sum_comp (debtTo d) fun c => tallyAt (cell c (debtRole d)) () (amt (debtRole d))
theorem due_core (c : Dev nD) (g : GSem nD τ sig) (h : due c g ≠ 0) : g.1 = (c.tc : Thread nD τ) := by
  unfold due at h
  rw [Finset.sum_apply] at h
  obtain ⟨d, -, hne⟩ := Finset.exists_ne_zero_of_sum_ne_zero h
  by_contra hn
  exact hne (Finsupp.ext fun u => by rw [tallyAt_apply, if_neg fun h' => hn (congrArg Prod.fst h'.1)]; rfl)

theorem three (g : GSem nD τ sig) : (tallyAt g () 3 : CellTallies nD τ sig Unit) = tallyAt g () 1 + (tallyAt g () 1 + tallyAt g () 1) := by
  rw [tallyAt_add, tallyAt_add]

theorem creds (c : Dev nD) : (Pipeline.launchCred (fun d => owed d 0) c : sProp 𝕄) ⊢ farCreds c := by
  rw [Pipeline.launchCred_of_sum _ due owed_sum due_core]
  have h : (cred (due c) : sProp 𝕄) = iprop((cred (tallyAt (cell c bar) () 1) ∗ cred (tallyAt (cell c bar) () 1) ∗ cred (tallyAt (cell c bar) () 1))
      ∗ (bigSep Finset.univ fun s => credAt c (yrecv s)) ∗ bigSep Finset.univ fun t => credAt c (rrecv t)) := by
    unfold due; rw [Pipeline.cred_finsetSum, debts_all]; rfl
  rw [h]
  unfold farCreds
  iintro ⟨⟨H0, H1, H2⟩, Hy, Hr⟩
  isplitl [H0 H1 H2]
  · rw [three]
    iapply (cred_add _ _).2
    isplitl [H0]; · iexact H0
    iapply (cred_add _ _).2
    isplitl [H1] <;> iassumption
  isplitl [Hy]; · iexact Hy
  iexact Hr

/-! ## The body between launch and exit -/

/-- A device knows who it is. -/
theorem run_device (c : Dev nD) (f : Dev nD → Step F) {Q : PUnit.{1} → sProp 𝕄} : run c ((Prog.lift .deviceId).bind fun d0 => f d0) Q = run c (f c) Q := by
  have h : ((Prog.lift .deviceId).bind fun d0 => f d0) = .op .deviceId f := rfl
  unfold run
  rw [h, wp_deviceId]

theorem run_body (K : Dev nD × Role → ℕ) (c : Dev nD) {Q : PUnit.{1} → sProp 𝕄} :
    iprop(Sh m K ∗ J c 0 ∗ begin_ m c ∗ ((J c 67 ∗ end_ m c) -∗ Q ⟨⟩)) ⊢ run c ((Prog.lift .deviceId).bind fun d0 => plan d0) Q := by
  rw [run_device c plan]
  exact run_plan m K c

/-- One point: all resources before it, those of the end after it. -/
def dats (_ : Fin 1) (c : Dev nD) : Dat τ (Elt F) Unit ℕ UU ℕ cfg0 c where
  A w := w.elim0
  after w _ := w.elim0
  Φ t := match t with
    | ⟨0, _⟩ => iprop(∃ K, Sh m K ∗ begin_ m c)
    | ⟨_ + 1, _⟩ => end_ m c
  q _ := fullShare
  owed t := match t with
    | ⟨0, _⟩ => owed c 0
    | ⟨_ + 1, _⟩ => 0

theorem body_at (t : Fin cfg0.N) : defs₀ (F := F) .tc cfg0.body (cfg0.bodyArgs t (cfg0.slots t)) = (Prog.lift .deviceId).bind fun d0 => plan d0 := body_plan

set_option maxRecDepth 16000 in
theorem obligation (c : Dev nD) : BodyObligation (dats m 0 c) (defs₀ (F := F)) 𝒱₀ () Set.univ := fun t => by
  rw [fin_N0 t, show (Finset.univ : Finset (Fin cfg0.W)) = ∅ from rfl, bigSep_empty]
  have h : iprop((∃ K, Sh m K ∗ begin_ m c) ∗ (dats m 0 c).owesAt () t0_0.castSucc ∗ emp)
      ⊢ run c ((Prog.lift .deviceId).bind fun d0 => plan d0) fun _ => iprop(end_ m c ∗ (dats m 0 c).owesAt () t0_0.succ ∗ emp) := by
    unfold Dat.owesAt Pipeline.owesWithin
    rw [show (dats m 0 c).owed t0_0.castSucc = owed c 0 from rfl, show (dats m 0 c).owed t0_0.succ = owed c 67 from (owed_end c).symm]
    iintro ⟨⟨%K, HS, HB⟩, ⟨%W, -, HO⟩, -⟩
    iapply (run_body m K c)
    isplitl [HS]; · iexact HS
    isplitl [HO]; · unfold J; iexists W; iexact HO
    isplitl [HB]; · iexact HB
    unfold J
    iintro ⟨⟨%W', HO⟩, HE⟩
    isplitl [HE]; · iexact HE
    isplitl [HO]
    · iexists W'
      isplitr; · ipureintro; exact fun _ _ => Or.inl trivial
      iexact HO
    iempintro
  rw [body_at t0_0]
  generalize ((Prog.lift .deviceId).bind fun d0 => plan (F := F) d0) = p at h ⊢
  exact h

/-! ## The theorem's side conditions -/

/-- What a device is given at the launch, its scratch aside. -/
def start (c : Dev nD) : sProp 𝕄 :=
  iprop(dealt m c ∗ levels0 ∗ farCreds c ∗ xy m c (m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ dealt m c)
      ⊢ |={Set.univ}=> iprop(start m c ∗ emp) := by
  rw [Pipeline.unscopedRestP_none, unscopedRest0_eq, show (levAts L lv : sProp 𝕄) = levels0 from rfl]
  iintro ⟨Hxy, Hlev, Hcr, -, HG⟩
  ihave Hc := (creds (F := F) c) $$ Hcr
  imodintro
  unfold start xy
  isplitl
  · isplitl [HG]; · iexact HG
    isplitl [Hlev]; · iexact Hlev
    isplitl [Hc]; · iexact Hc
    iexact Hxy
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, Sh m K ∗ begin_ m c) from rfl]
  unfold start dealt begin_ Sh
  iintro ⟨⟨⟨%K, HR, Hp, Ho, Hf⟩, HL, HC, Hxy⟩, -, Hs⟩
  ihave HB := (bufs_intro m c _) $$ [Hxy Hs]
  · isplitl [Hxy] <;> iassumption
  iexists K
  isplitl [HR HL]
  · isplitl [HR] <;> iassumption
  isplitl [Hp]; · iexact Hp
  isplitl [Ho]; · iexact Ho
  isplitl [Hf]; · iexact Hf
  isplitl [HC] <;> iassumption

/-- What the run is read off. -/
def left (c : Dev nD) : sProp 𝕄 := iprop(unscopedSems0 c ∗ xy m c (G m c))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = end_ m c from rfl]
  unfold end_ left
  rw [sems_eq]
  iintro ⟨⟨Hu, Ho⟩, Hb⟩
  ihave H := (bufs_exit m c) $$ Hb
  icases H with ⟨Hxy, Hs⟩
  isplitl [Hu Hxy]
  · isplitl [Hu] <;> iassumption
  isplitl [Ho] <;> iassumption

/-- What a device's final state shows. -/
def Shown (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = G m c

theorem left_read (c : Dev nD) (s' : Phys nD τ sig (Elt F)) :
    iprop(left m c ∗ emp ∗ SI s') ⊢ |={Set.univ}=> iprop(⌜Shown m c s'.mem⌝ ∗ SI s') := by
  unfold left xy
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hx i (Finset.mem_univ _), funext fun i => ho i (Finset.mem_univ _)⟩
  iexact HSI

/-! ## The run -/

set_option maxRecDepth 200000 in
/-- The whole run at any float values: it terminates, the argument is unchanged, the result is the gathered sum and every
    counter is zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = G m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => obligation m c) (hne := fun w => w.elim0) (harr := arr_whole0) (hstage := stage_whole0) (hshare := fun _ w => w.elim0)
    (hdistinct := winFacts0.arr_inj)
    (O₀ := fun c => owed c 0) (howed₀ := fun _ => rfl) (howedN := fun _ => rfl)
    (L := L) (lv := lv) (hL := L_of_ne) (hwaits := fun c => Pipeline.cellsWaits_intro cfgs (dats m) () 0 c fun w => w.elim0)
    (G := deal m) (G' := dealt m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := left m) (Z := fun _ => iprop(emp))
    (hX := start_intro m ρ) (hin := phi0_intro m) (hout := phi1_exit m)
    (QY := Shown m) (hY := left_read m)
    (hQ := fun _ h hs => ⟨fun c => (h c).2.2.2, sem_eq_zero hs fun c => (h c).2.2.1⟩)

end Cert.KernelIdeal.Ring
end
-- ==== Proof.Value.lean ====
/-
# The sum the ring gathers is the reference's

Without rounding a device's own chunk is the sum of its rows and of the rows across `y`, in that order; the reference
adds the upper half of the argument to the lower. Addition commutes, so both columns of the mesh gather the same array.
-/
module

public import proofs.«01_k».proof.Proof.Ideal.Launch
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

noncomputable section

namespace Cert.KernelIdeal.Ring

open Cert.KernelIdeal Cert.KernelIdeal.Gen
open Idealize.ShloMosaic
open Idealize.ShloMosaic.TcCoe

abbrev Tall : Shape := ⟨2, ![16384, 1024]⟩

/-- Row `y * 8192 + r` of the whole argument, where `r` is the row of `i`. -/
def half (A : Tall.Idx → EReal) (y : ℕ) (hy : y < 2) (i : S8192x1024.Idx) : EReal :=
  A fun a => match a with
    | 0 => ⟨y * 8192 + (i 0).val, by have : (i 0).val < 8192 := (i 0).isLt; show _ < 16384; omega⟩
    | 1 => i 1

/-- The sum of both halves. -/
def total (A : Tall.Idx → EReal) (i : S8192x1024.Idx) : EReal := half A 0 (by decide) i + half A 1 (by decide) i

/-- Both halves add up to the sum, in either order. -/
theorem half_pair (A : Tall.Idx → EReal) (y y' : ℕ) (hy : y < 2) (hy' : y' < 2) (h : y ≠ y') (i : S8192x1024.Idx) :
    half A y hy i + half A y' hy' i = total A i := by
  unfold total
  obtain ⟨rfl, rfl⟩ | ⟨rfl, rfl⟩ : (y = 0 ∧ y' = 1) ∨ (y = 1 ∧ y' = 0) := by omega
  · rfl
  · exact add_comm _ _

theorem col_ring (y p : ℕ) (hy : y < 2) (hp : p < 8) : col (ringDev y p hy hp) = y := by
  unfold col ringDev; dsimp only; split <;> omega
theorem pos_ring (y p : ℕ) (hy : y < 2) (hp : p < 8) : pos (ringDev y p hy hp) = p := by
  have h : ∀ (y : Fin 2) (p : Fin 8), pos (ringDev y.val p.val y.isLt p.isLt) = p.val := by decide +kernel
  exact h ⟨y, hy⟩ ⟨p, hp⟩
theorem col_y (c : Dev nD) : col (yDev c) ≠ col c := by revert c; decide +kernel

/-- A row is row `r` of its chunk. -/
theorem big_small (i : S8192x1024.Idx) (p : ℕ) (hp : p < 8) (h : p = (i 0).val / 1024) : big p hp (small i) = i := by
  subst h
  refine idx_ext ?_ rfl
  exact Nat.div_add_mod (i 0).val 1024

/-- Every device holds its column's half of the whole argument. -/
def Cut (m : (ℓ : Loc nD τ sig) → Buf (Elt Ideal) ℓ) (A : Tall.Idx → EReal) : Prop :=
  ∀ c : Dev nD, m ((c.tc : Thread nD τ).loc main_arg0) = Layout.blockN ⟨2, ![8192, 1024]⟩ ⟨2, ![16384, 1024]⟩ (Layout.meshBlock [2, 2, 4] ![[1], []] c) A

section
variable (m : (ℓ : Loc nD τ sig) → Buf (Elt Ideal) ℓ) (A : Tall.Idx → EReal) (hm : Cut m A)
include hm

/-- A device of column `y` holds half `y` of the argument. -/
theorem xIn_half (c : Dev nD) : xIn m c = half A (col c) (col_lt c) := by
  have hb : ∀ c : Dev nD, ((Layout.meshBlock [2, 2, 4] ![[1], []] c) 0).val = col c ∧ ((Layout.meshBlock [2, 2, 4] ![[1], []] c) 1).val = 0 := by decide +kernel
  funext i
  unfold xIn half
  rw [hm c, Layout.blockN_apply]
  refine congrArg A (idx_ext ?_ ?_)
  · rw [Layout.TilesN.idx_val]
    exact congrArg (fun n => n * 8192 + (i 0).val) (hb c).1
  · rw [Layout.TilesN.idx_val]
    exact (congrArg (fun n => n * 1024 + (i 1).val) (hb c).2).trans (by rw [Nat.zero_mul, Nat.zero_add])

/-- The array that the ring gathers is the sum of the halves, on every device. -/
theorem G_total (c : Dev nD) : G m c = total A := by
  funext i
  have hX (d : Dev nD) (h : pos d = (i 0).val / 1024) : XC m d (small i) = half A (col d) (col_lt d) i := by
    unfold XC; rw [xIn_half m A hm, big_small i _ _ h]
  have hp := pos_ring (col c) _ (col_lt c) (chunk_lt i)
  show (XC m _ (small i) : EReal) + XC m (yDev _) (small i) = _
  rw [hX _ hp, hX _ ((pos_y _).trans hp)]
  exact half_pair A _ _ _ _ (col_y _).symm i
end

/-- The reference's value at an index. -/
theorem ref_total (A : Tall.Idx → EReal) :
    (truncf .bf16 (Host.reduceAdd (shapeCast _ A Cert.ReferenceIdeal.Gen.facts.shapeCasts_S16384x1024_S2x8192x1024)
      (constant (F := Ideal) Cert.ReferenceIdeal.S_ .f32 0x00000000#32) Cert.ReferenceIdeal.Gen.facts.reducesTo_S2x8192x1024_S8192x1024_d0
        Cert.ReferenceIdeal.Gen.facts.h_S_) Cert.ReferenceIdeal.Gen.facts.bitsLt_bf16_f32 : S8192x1024.Idx → EReal) = total A := by
  funext i
  have hc (k : Fin 2) (j : S8192x1024.Idx) : shapeCast Cert.ReferenceIdeal.S2x8192x1024 A Cert.ReferenceIdeal.Gen.facts.shapeCasts_S16384x1024_S2x8192x1024 (ix3 k (j 0) (j 1))
      = half A k.val k.isLt j := by
    refine shapeCast_apply _ _ _ _ ?_
    rw [Shape.rowMajor_val_two, Shape.rowMajor_val_three]
    exact rfl
  have ht (x : FVec Ideal S8192x1024 .f32) : (truncf .bf16 x Cert.ReferenceIdeal.Gen.facts.bitsLt_bf16_f32 i : EReal) = x i := rfl
  refine (ht _).trans ?_
  rw [Host.reduceAdd_apply, Ideal.hostReduceAdd_def, Ideal.hostReduceAdd_r3_a0, Fin.sum_univ_two]
  show Ideal.ofBits .f32 0x00000000#32 + _ = _
  rw [Ideal.ofBits_zero_f32, zero_add]
  exact congrArg₂ _ (hc 0 i) (hc 1 i)

end Cert.KernelIdeal.Ring
end
-- ==== Proof.lean ====
/-
# The claims

Each program's run gives its frame; the ideal kernel's result on every device is the sum of the argument's halves, and so
is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem

/-- The kernel terminates, keeps its argument and leaves every semaphore at zero. -/
theorem kernel : Cert.quiescent_Kernel (hKernel := Cert.Kernel.Gen.facts) := fun m g _ =>
  (θ_run _ _ _).mono (fun _ h => ⟨fun c => (h.1 c).1, h.2⟩) (Cert.Kernel.Ring.run_main m g)

/-- So does the ideal kernel. -/
theorem kernelIdeal : Cert.quiescent_KernelIdeal (hKernelIdeal := Cert.KernelIdeal.Gen.facts) := fun m g _ =>
  (θ_run _ _ _).mono (fun _ h => ⟨fun c => (h.1 c).1, h.2⟩) (Cert.KernelIdeal.Ring.run_main m g)

/-- Every device's result is the reference's: the sum of the two halves of the argument. -/
theorem algebraic : Cert.algebraic_KernelIdeal_ReferenceIdeal (hKernelIdeal := Cert.KernelIdeal.Gen.facts) (hReferenceIdeal := Cert.ReferenceIdeal.Gen.facts) :=
  fun m g m' g' _ hm =>
    ⟨Cert.KernelIdeal.Ring.total _,
      (θ_run _ _ _).mono (fun _ h c => ⟨(h.1 c).2.trans (Cert.KernelIdeal.Ring.G_total m _ hm c), (h.1 c).1⟩) (Cert.KernelIdeal.Ring.run_main m g),
      (θ_run _ _ _).mono (fun _ h => ⟨(h 0).1.trans (Cert.KernelIdeal.Ring.ref_total _), (h 0).2⟩) (Cert.ReferenceIdeal.Value.run m' g')⟩

/-- The reference terminates and keeps its argument; it has no semaphore. -/
theorem referenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- All five claims. -/
theorem claim : Cert.Claim := ⟨Cert.Kernel.Gen.facts, Cert.KernelIdeal.Gen.facts, Cert.ReferenceIdeal.Gen.facts,
  kernel, kernelIdeal, referenceIdeal, trivial, algebraic⟩

end Cert.Proof

end
